-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_apart [hPre_apart : Cert.Pre_apart.Facts] (m : (ℓ : Loc Cert.KernelIdeal.nD Cert.KernelIdeal.τ Cert.KernelIdeal.sig) → Buf (Elt Ideal) ℓ) : Prop :=
  ∀ c : Dev Cert.KernelIdeal.nD,
    (Cert.Pre_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_boxes [hPre_boxes : Cert.Pre_boxes.Facts] (m : (ℓ : Loc Cert.KernelIdeal.nD Cert.KernelIdeal.τ Cert.KernelIdeal.sig) → Buf (Elt Ideal) ℓ) : Prop :=
  ∀ c : Dev Cert.KernelIdeal.nD,
    (Cert.Pre_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_FlooredIdeal (m : (ℓ : Loc Cert.FlooredIdeal.nD Cert.FlooredIdeal.τ Cert.FlooredIdeal.sig) → Buf (Elt Ideal) ℓ) : Prop :=
  True

def Pre_FlooredIdeal_boxes [hPre_boxes : Cert.Pre_boxes.Facts] (m : (ℓ : Loc Cert.FlooredIdeal.nD Cert.FlooredIdeal.τ Cert.FlooredIdeal.sig) → Buf (Elt Ideal) ℓ) : Prop :=
  ∀ c : Dev Cert.FlooredIdeal.nD,
    (Cert.Pre_boxes.fn (F := Ideal) (m ((c.tc : Thread Cert.FlooredIdeal.nD Cert.FlooredIdeal.τ).loc Cert.FlooredIdeal.main_arg0)) (m ((c.tc : Thread Cert.FlooredIdeal.nD Cert.FlooredIdeal.τ).loc Cert.FlooredIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_apart [hPre_apart : Cert.Pre_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_apart [hKernelIdeal : Cert.KernelIdeal.Facts] [hPre_apart : Cert.Pre_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_boxes [hKernelIdeal : Cert.KernelIdeal.Facts] [hPre_boxes : Cert.Pre_boxes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_FlooredIdeal [hFlooredIdeal : Cert.FlooredIdeal.Facts] : Prop :=
  ∀ (m : (ℓ : Loc Cert.FlooredIdeal.nD Cert.FlooredIdeal.τ Cert.FlooredIdeal.sig) → Buf (Elt Ideal) ℓ) (g : Dev Cert.FlooredIdeal.nD → PrngReg), Pre_FlooredIdeal m →
    θ_run (Cert.FlooredIdeal.defs (F := Ideal)) (onTc (τ := Cert.FlooredIdeal.τ) (Cert.FlooredIdeal.main (F := Ideal))) ⟨m, fun _ => 0, g⟩ (fun r => (∀ c : Dev Cert.FlooredIdeal.nD,
      r.2.mem ((c.tc : Thread Cert.FlooredIdeal.nD Cert.FlooredIdeal.τ).loc Cert.FlooredIdeal.main_arg0) = m ((c.tc : Thread Cert.FlooredIdeal.nD Cert.FlooredIdeal.τ).loc Cert.FlooredIdeal.main_arg0)
      ∧ r.2.mem ((c.tc : Thread Cert.FlooredIdeal.nD Cert.FlooredIdeal.τ).loc Cert.FlooredIdeal.main_arg1) = m ((c.tc : Thread Cert.FlooredIdeal.nD Cert.FlooredIdeal.τ).loc Cert.FlooredIdeal.main_arg1))
      ∧ r.2.sem = fun _ => 0)

def quiescent_FlooredIdeal_pre_boxes [hFlooredIdeal : Cert.FlooredIdeal.Facts] [hPre_boxes : Cert.Pre_boxes.Facts] : Prop :=
  ∀ (m : (ℓ : Loc Cert.FlooredIdeal.nD Cert.FlooredIdeal.τ Cert.FlooredIdeal.sig) → Buf (Elt Ideal) ℓ) (g : Dev Cert.FlooredIdeal.nD → PrngReg), Pre_FlooredIdeal_boxes m →
    θ_run (Cert.FlooredIdeal.defs (F := Ideal)) (onTc (τ := Cert.FlooredIdeal.τ) (Cert.FlooredIdeal.main (F := Ideal))) ⟨m, fun _ => 0, g⟩ (fun r => (∀ c : Dev Cert.FlooredIdeal.nD,
      r.2.mem ((c.tc : Thread Cert.FlooredIdeal.nD Cert.FlooredIdeal.τ).loc Cert.FlooredIdeal.main_arg0) = m ((c.tc : Thread Cert.FlooredIdeal.nD Cert.FlooredIdeal.τ).loc Cert.FlooredIdeal.main_arg0)
      ∧ r.2.mem ((c.tc : Thread Cert.FlooredIdeal.nD Cert.FlooredIdeal.τ).loc Cert.FlooredIdeal.main_arg1) = m ((c.tc : Thread Cert.FlooredIdeal.nD Cert.FlooredIdeal.τ).loc Cert.FlooredIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_apart [hReferenceIdeal : Cert.ReferenceIdeal.Facts] [hPre_apart : Cert.Pre_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_apart [hKernelIdeal : Cert.KernelIdeal.Facts] [hReferenceIdeal : Cert.ReferenceIdeal.Facts] [hPre_apart : Cert.Pre_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v314) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_KernelIdeal_FlooredIdeal_pre_boxes [hKernelIdeal : Cert.KernelIdeal.Facts] [hFlooredIdeal : Cert.FlooredIdeal.Facts] [hPre_boxes : Cert.Pre_boxes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.FlooredIdeal.nD Cert.FlooredIdeal.τ Cert.FlooredIdeal.sig) → Buf (Elt Ideal) ℓ) (g' : Dev Cert.FlooredIdeal.nD → PrngReg), Pre_KernelIdeal_boxes m →
    (∀ c : Dev Cert.KernelIdeal.nD,
      m' ((c.tc : Thread Cert.FlooredIdeal.nD Cert.FlooredIdeal.τ).loc Cert.FlooredIdeal.main_arg0) = m ((c.tc : Thread Cert.KernelIdeal.nD Cert.KernelIdeal.τ).loc Cert.KernelIdeal.main_arg0)
      ∧ m' ((c.tc : Thread Cert.FlooredIdeal.nD Cert.FlooredIdeal.τ).loc Cert.FlooredIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.FlooredIdeal.defs (F := Ideal)) (onTc (τ := Cert.FlooredIdeal.τ) (Cert.FlooredIdeal.main (F := Ideal))) ⟨m', fun _ => 0, g'⟩ (fun r => ∀ c : Dev Cert.FlooredIdeal.nD,
          r.2.mem ((c.tc : Thread Cert.FlooredIdeal.nD Cert.FlooredIdeal.τ).loc Cert.FlooredIdeal.main_v306) = v0 c
          ∧ r.2.mem ((c.tc : Thread Cert.FlooredIdeal.nD Cert.FlooredIdeal.τ).loc Cert.FlooredIdeal.main_arg0) = m' ((c.tc : Thread Cert.FlooredIdeal.nD Cert.FlooredIdeal.τ).loc Cert.FlooredIdeal.main_arg0)
          ∧ r.2.mem ((c.tc : Thread Cert.FlooredIdeal.nD Cert.FlooredIdeal.τ).loc Cert.FlooredIdeal.main_arg1) = m' ((c.tc : Thread Cert.FlooredIdeal.nD Cert.FlooredIdeal.τ).loc Cert.FlooredIdeal.main_arg1))

def disproves_algebraic_KernelIdeal_ReferenceIdeal_pre_boxes [hKernelIdeal : Cert.KernelIdeal.Facts] [hReferenceIdeal : Cert.ReferenceIdeal.Facts] [hPre_boxes : Cert.Pre_boxes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg),
    (∀ c : Dev Cert.KernelIdeal.nD,
      m ((c.tc : Thread Cert.KernelIdeal.nD Cert.KernelIdeal.τ).loc Cert.KernelIdeal.main_arg0) = Cert.Cx_KernelIdeal.arg0 (F := Ideal)
      ∧ m ((c.tc : Thread Cert.KernelIdeal.nD Cert.KernelIdeal.τ).loc Cert.KernelIdeal.main_arg1) = Cert.Cx_KernelIdeal.arg1 (F := Ideal)) →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    Pre_KernelIdeal_boxes m
    ∧ ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ¬ (∀ c : Dev Cert.KernelIdeal.nD,
          r.2.mem ((c.tc : Thread Cert.KernelIdeal.nD Cert.KernelIdeal.τ).loc Cert.KernelIdeal.main_v2) = v0 c))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v314) = v0 c)

def Claim : Prop :=
  ∃ (hKernel : Cert.Kernel.Facts) (hKernelIdeal : Cert.KernelIdeal.Facts) (hFlooredIdeal : Cert.FlooredIdeal.Facts) (hReferenceIdeal : Cert.ReferenceIdeal.Facts) (hPre_apart : Cert.Pre_apart.Facts) (hPre_boxes : Cert.Pre_boxes.Facts),
    quiescent_Kernel (hKernel := hKernel)
    ∧ quiescent_KernelIdeal (hKernelIdeal := hKernelIdeal)
    ∧ quiescent_KernelIdeal_pre_apart (hKernelIdeal := hKernelIdeal) (hPre_apart := hPre_apart)
    ∧ quiescent_KernelIdeal_pre_boxes (hKernelIdeal := hKernelIdeal) (hPre_boxes := hPre_boxes)
    ∧ quiescent_FlooredIdeal (hFlooredIdeal := hFlooredIdeal)
    ∧ quiescent_FlooredIdeal_pre_boxes (hFlooredIdeal := hFlooredIdeal) (hPre_boxes := hPre_boxes)
    ∧ quiescent_ReferenceIdeal (hReferenceIdeal := hReferenceIdeal)
    ∧ quiescent_ReferenceIdeal_pre_apart (hReferenceIdeal := hReferenceIdeal) (hPre_apart := hPre_apart)
    ∧ preserves_Kernel_KernelIdeal
    ∧ algebraic_KernelIdeal_ReferenceIdeal_pre_apart (hKernelIdeal := hKernelIdeal) (hReferenceIdeal := hReferenceIdeal) (hPre_apart := hPre_apart)
    ∧ algebraic_KernelIdeal_FlooredIdeal_pre_boxes (hKernelIdeal := hKernelIdeal) (hFlooredIdeal := hFlooredIdeal) (hPre_boxes := hPre_boxes)
    ∧ disproves_algebraic_KernelIdeal_ReferenceIdeal_pre_boxes (hKernelIdeal := hKernelIdeal) (hReferenceIdeal := hReferenceIdeal) (hPre_boxes := hPre_boxes)
-- ==== Cx_KernelIdeal.lean ====
noncomputable def arg0_words : Fin 512 → Fin 4 → BitVec 32 :=
  ![
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32] ]
noncomputable def arg0 {F : FTy → Type} [FloatOps F] : FVec F (⟨2, ![512, 4]⟩ : Shape) .f32 := fun i => FloatOps.ofBits .f32 (arg0_words (i 0) (i 1))

noncomputable def arg1_words : Fin 2048 → Fin 4 → BitVec 32 :=
  ![
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32],
    ![0x3F800000#32, 0x3F800000#32, 0x3F800000#32, 0x3F800000#32] ]
noncomputable def arg1 {F : FTy → Type} [FloatOps F] : FVec F (⟨2, ![2048, 4]⟩ : Shape) .f32 := fun i => FloatOps.ofBits .f32 (arg1_words (i 0) (i 1))
-- ==== Pre_apart.lean ====
abbrev S512x4 : Shape := ⟨2, ![512, 4]⟩
abbrev S2048x4 : Shape := ⟨2, ![2048, 4]⟩
abbrev S2048x1 : Shape := ⟨2, ![2048, 1]⟩
abbrev S2048 : Shape := ⟨1, ![2048]⟩
abbrev S_ : Shape := ⟨0, ![]⟩
abbrev S2048x2 : Shape := ⟨2, ![2048, 2]⟩
abbrev S2048x1x2 : Shape := ⟨3, ![2048, 1, 2]⟩
abbrev S1x2048x2 : Shape := ⟨3, ![1, 2048, 2]⟩
abbrev S2048x2048x2 : Shape := ⟨3, ![2048, 2048, 2]⟩
abbrev S2048x2048x1 : Shape := ⟨3, ![2048, 2048, 1]⟩
abbrev S2048x2048 : Shape := ⟨2, ![2048, 2048]⟩
abbrev S1x2048 : Shape := ⟨2, ![1, 2048]⟩
abbrev S512x2 : Shape := ⟨2, ![512, 2]⟩

class Facts : Prop where
  slices_S2048x4_S2048x1_0_0 : S2048x4.Slices ![0, 0] S2048x1
  shapeCasts_S2048x1_S2048 : S2048x1.ShapeCasts S2048
  slices_S2048x4_S2048x1_0_1 : S2048x4.Slices ![0, 1] S2048x1
  slices_S2048x4_S2048x1_0_2 : S2048x4.Slices ![0, 2] S2048x1
  slices_S2048x4_S2048x1_0_3 : S2048x4.Slices ![0, 3] S2048x1
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x1_S2048x1_S2048x4_d1 : Shape.Concatenates [S2048x1, S2048x1, S2048x1, S2048x1] S2048x4 1
  slices_S2048x4_S2048x2_0_0 : S2048x4.Slices ![0, 0] S2048x2
  bcast_S2048x2_S2048x1x2_0_2 : S2048x2.BroadcastsInDim S2048x1x2 (![0, 2] : Fin 2 → Fin S2048x1x2.rank)
  bcast_S2048x2_S1x2048x2_1_2 : S2048x2.BroadcastsInDim S1x2048x2 (![1, 2] : Fin 2 → Fin S1x2048x2.rank)
  bcast_S2048x1x2_S2048x2048x2_0_1_2 : S2048x1x2.BroadcastsInDim S2048x2048x2 (![0, 1, 2] : Fin 3 → Fin S2048x2048x2.rank)
  bcast_S1x2048x2_S2048x2048x2_0_1_2 : S1x2048x2.BroadcastsInDim S2048x2048x2 (![0, 1, 2] : Fin 3 → Fin S2048x2048x2.rank)
  slices_S2048x4_S2048x2_0_2 : S2048x4.Slices ![0, 2] S2048x2
  bcast_S_S2048x2048x2 : S_.BroadcastsInDim S2048x2048x2 (![] : Fin 0 → Fin S2048x2048x2.rank)
  slices_S2048x2048x2_S2048x2048x1_0_0_0 : S2048x2048x2.Slices ![0, 0, 0] S2048x2048x1
  shapeCasts_S2048x2048x1_S2048x2048 : S2048x2048x1.ShapeCasts S2048x2048
  slices_S2048x2048x2_S2048x2048x1_0_0_1 : S2048x2048x2.Slices ![0, 0, 1] S2048x2048x1
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  bcast_S_S512x4 : S_.BroadcastsInDim S512x4 (![] : Fin 0 → Fin S512x4.rank)
  reducesTo_S512x4_S_d0_1 : S512x4.ReducesTo [0, 1] S_
  h_S_ : 0 < S_.numel
  slices_S512x4_S512x2_0_2 : S512x4.Slices ![0, 2] S512x2
  bcast_S_S512x2 : S_.BroadcastsInDim S512x2 (![] : Fin 0 → Fin S512x2.rank)
  reducesTo_S512x2_S_d0_1 : S512x2.ReducesTo [0, 1] S_
  bcast_S_S2048x4 : S_.BroadcastsInDim S2048x4 (![] : Fin 0 → Fin S2048x4.rank)
  reducesTo_S2048x4_S_d0_1 : S2048x4.ReducesTo [0, 1] S_
  bcast_S_S2048x2 : S_.BroadcastsInDim S2048x2 (![] : Fin 0 → Fin S2048x2.rank)
  reducesTo_S2048x2_S_d0_1 : S2048x2.ReducesTo [0, 1] S_
  reducesTo_S2048x2048_S_d0_1 : S2048x2048.ReducesTo [0, 1] S_

variable [Facts]

def fn_triu {F : FTy → Type} [FloatOps F] (arg0 : IVec S2048x2048 1) : IVec S2048x2048 1 :=
  let v0 : IVec S2048x2048 32 := iotaInDim S2048x2048 32 0
  let c : IVec S_ 32 := constantI S_ 32 0#32
  let v1 : IVec S2048x2048 32 := broadcastInDim S2048x2048 ![] bcast_S_S2048x2048 c
  let v2 : IVec S2048x2048 32 := addi v0 v1
  let v3 : IVec S2048x2048 32 := iotaInDim S2048x2048 32 1
  let v4 : IVec S2048x2048 1 := cmpi .sge v2 v3
  let c_0 : IVec S_ 1 := constantI S_ 1 0#1
  let v5 : IVec S2048x2048 1 := broadcastInDim S2048x2048 ![] bcast_S_S2048x2048 c_0
  let v6 : IVec S2048x2048 1 := select v4 v5 arg0
  v6

def fn_where {F : FTy → Type} [FloatOps F] (arg0 : IVec S2048x2048 1) (arg1 : IVec S2048x2048 1) (arg2 : IVec S_ 1) : IVec S2048x2048 1 :=
  let v0 : IVec S2048x2048 1 := broadcastInDim S2048x2048 ![] bcast_S_S2048x2048 arg2
  let v1 : IVec S2048x2048 1 := select arg0 arg1 v0
  v1

def fn_part5 {F : FTy → Type} [FloatOps F] (main_arg1 : FVec F S2048x4 .f32) (main_v89 : IVec S2048x2048 1) (main_v94 : IVec S2048x2048 1) (main_v98 : IVec S_ 1) (main_v101 : IVec S512x2 1) (main_c_15 : IVec S_ 1) : IVec S_ 1 :=
  let main_v102 : IVec S_ 1 := (fun x v => Host.reduce IntOp.andi x v reducesTo_S512x2_S_d0_1 h_S_) main_v101 main_c_15
  let main_v103 : IVec S_ 1 := andi main_v98 main_v102
  let main_v104 : FVec F S2048x4 .f32 := Host.absf main_arg1
  let main_cst_16 : FVec F S_ .f32 := constant S_ .f32 0x7F800000#32
  let main_v105 : FVec F S2048x4 .f32 := broadcastInDim S2048x4 ![] bcast_S_S2048x4 main_cst_16
  let main_v106 : IVec S2048x4 1 := cmpf .olt main_v104 main_v105
  let main_c_17 : IVec S_ 1 := constantI S_ 1 1#1
  let main_v107 : IVec S_ 1 := (fun x v => Host.reduce IntOp.andi x v reducesTo_S2048x4_S_d0_1 h_S_) main_v106 main_c_17
  let main_v108 : FVec F S2048x2 .f32 := (extractStridedSlice S2048x2 ![0, 2] · slices_S2048x4_S2048x2_0_2) main_arg1
  let main_cst_18 : FVec F S_ .f32 := constant S_ .f32 0x00000000#32
  let main_v109 : FVec F S2048x2 .f32 := broadcastInDim S2048x2 ![] bcast_S_S2048x2 main_cst_18
  let main_v110 : IVec S2048x2 1 := cmpf .oge main_v108 main_v109
  let main_c_19 : IVec S_ 1 := constantI S_ 1 1#1
  let main_v111 : IVec S_ 1 := (fun x v => Host.reduce IntOp.andi x v reducesTo_S2048x2_S_d0_1 h_S_) main_v110 main_c_19
  let main_v112 : IVec S_ 1 := andi main_v107 main_v111
  let main_v113 : IVec S_ 1 := andi main_v103 main_v112
  let main_c_20 : IVec S_ 1 := constantI S_ 1 1#1
  let main_v114 : IVec S2048x2048 1 := fn_where (F := F) main_v89 main_v94 main_c_20
  let main_c_21 : IVec S_ 1 := constantI S_ 1 1#1
  let main_v115 : IVec S_ 1 := (fun x v => Host.reduce IntOp.andi x v reducesTo_S2048x2048_S_d0_1 h_S_) main_v114 main_c_21
  let main_v116 : IVec S_ 1 := andi main_v113 main_v115
  main_v116

def fn_part4 {F : FTy → Type} [FloatOps F] (main_arg0 : FVec F S512x4 .f32) (main_arg1 : FVec F S2048x4 .f32) (main_v48 : FVec F S2048x2048 .f32) (main_v84 : FVec F S2048x2048 .f32) (main_cst_9 : FVec F S_ .f32) : IVec S_ 1 :=
  let main_v85 : FVec F S2048x2048 .f32 := broadcastInDim S2048x2048 ![] bcast_S_S2048x2048 main_cst_9
  let main_v86 : FVec F S2048x2048 .f32 := maximumf main_v84 main_v85
  let main_v87 : FVec F S2048x2048 .f32 := Host.divf main_v48 main_v86
  let main_c : IVec S_ 1 := constantI S_ 1 1#1
  let main_v88 : IVec S2048x2048 1 := broadcastInDim S2048x2048 ![] bcast_S_S2048x2048 main_c
  let main_v89 : IVec S2048x2048 1 := fn_triu (F := F) main_v88
  let main_cst_10 : FVec F S_ .f32 := constant S_ .f32 0x33D6BF95#32
  let main_v90 : FVec F S2048x2048 .f32 := broadcastInDim S2048x2048 ![] bcast_S_S2048x2048 main_cst_10
  let main_v91 : IVec S2048x2048 1 := cmpf .oge main_v87 main_v90
  let main_cst_11 : FVec F S_ .f32 := constant S_ .f32 0x3F000000#32
  let main_v92 : FVec F S2048x2048 .f32 := broadcastInDim S2048x2048 ![] bcast_S_S2048x2048 main_cst_11
  let main_v93 : IVec S2048x2048 1 := cmpf .ole main_v87 main_v92
  let main_v94 : IVec S2048x2048 1 := andi main_v91 main_v93
  let main_v95 : FVec F S512x4 .f32 := Host.absf main_arg0
  let main_cst_12 : FVec F S_ .f32 := constant S_ .f32 0x7F800000#32
  let main_v96 : FVec F S512x4 .f32 := broadcastInDim S512x4 ![] bcast_S_S512x4 main_cst_12
  let main_v97 : IVec S512x4 1 := cmpf .olt main_v95 main_v96
  let main_c_13 : IVec S_ 1 := constantI S_ 1 1#1
  let main_v98 : IVec S_ 1 := (fun x v => Host.reduce IntOp.andi x v reducesTo_S512x4_S_d0_1 h_S_) main_v97 main_c_13
  let main_v99 : FVec F S512x2 .f32 := (extractStridedSlice S512x2 ![0, 2] · slices_S512x4_S512x2_0_2) main_arg0
  let main_cst_14 : FVec F S_ .f32 := constant S_ .f32 0x00000000#32
  let main_v100 : FVec F S512x2 .f32 := broadcastInDim S512x2 ![] bcast_S_S512x2 main_cst_14
  let main_v101 : IVec S512x2 1 := cmpf .oge main_v99 main_v100
  let main_c_15 : IVec S_ 1 := constantI S_ 1 1#1
  fn_part5 (F := F) main_arg1 main_v89 main_v94 main_v98 main_v101 main_c_15

def fn_part3 {F : FTy → Type} [FloatOps F] (main_arg0 : FVec F S512x4 .f32) (main_arg1 : FVec F S2048x4 .f32) (main_v24 : FVec F S2048x4 .f32) (main_v48 : FVec F S2048x2048 .f32) (main_v63 : FVec F S2048 .f32) : IVec S_ 1 :=
  let main_v64 : FVec F S2048x1 .f32 := (extractStridedSlice S2048x1 ![0, 2] · slices_S2048x4_S2048x1_0_2) main_v24
  let main_v65 : FVec F S2048 .f32 := shapeCast S2048 main_v64 shapeCasts_S2048x1_S2048
  let main_v66 : FVec F S2048x1 .f32 := (extractStridedSlice S2048x1 ![0, 0] · slices_S2048x4_S2048x1_0_0) main_v24
  let main_v67 : FVec F S2048 .f32 := shapeCast S2048 main_v66 shapeCasts_S2048x1_S2048
  let main_v68 : FVec F S2048 .f32 := subf main_v65 main_v67
  let main_cst_7 : FVec F S_ .f32 := constant S_ .f32 0x3F800000#32
  let main_v69 : FVec F S2048 .f32 := broadcastInDim S2048 ![] bcast_S_S2048 main_cst_7
  let main_v70 : FVec F S2048 .f32 := addf main_v68 main_v69
  let main_v71 : FVec F S2048x1 .f32 := (extractStridedSlice S2048x1 ![0, 3] · slices_S2048x4_S2048x1_0_3) main_v24
  let main_v72 : FVec F S2048 .f32 := shapeCast S2048 main_v71 shapeCasts_S2048x1_S2048
  let main_v73 : FVec F S2048x1 .f32 := (extractStridedSlice S2048x1 ![0, 1] · slices_S2048x4_S2048x1_0_1) main_v24
  let main_v74 : FVec F S2048 .f32 := shapeCast S2048 main_v73 shapeCasts_S2048x1_S2048
  let main_v75 : FVec F S2048 .f32 := subf main_v72 main_v74
  let main_cst_8 : FVec F S_ .f32 := constant S_ .f32 0x3F800000#32
  let main_v76 : FVec F S2048 .f32 := broadcastInDim S2048 ![] bcast_S_S2048 main_cst_8
  let main_v77 : FVec F S2048 .f32 := addf main_v75 main_v76
  let main_v78 : FVec F S2048 .f32 := mulf main_v70 main_v77
  let main_v79 : FVec F S2048x1 .f32 := broadcastInDim S2048x1 ![0] bcast_S2048_S2048x1_0 main_v63
  let main_v80 : FVec F S1x2048 .f32 := broadcastInDim S1x2048 ![1] bcast_S2048_S1x2048_1 main_v78
  let main_v81 : FVec F S2048x2048 .f32 := broadcastInDim S2048x2048 ![0, 1] bcast_S2048x1_S2048x2048_0_1 main_v79
  let main_v82 : FVec F S2048x2048 .f32 := broadcastInDim S2048x2048 ![0, 1] bcast_S1x2048_S2048x2048_0_1 main_v80
  let main_v83 : FVec F S2048x2048 .f32 := addf main_v81 main_v82
  let main_v84 : FVec F S2048x2048 .f32 := subf main_v83 main_v48
  let main_cst_9 : FVec F S_ .f32 := constant S_ .f32 0x33D6BF95#32
  fn_part4 (F := F) main_arg0 main_arg1 main_v48 main_v84 main_cst_9

def fn_part2 {F : FTy → Type} [FloatOps F] (main_arg0 : FVec F S512x4 .f32) (main_arg1 : FVec F S2048x4 .f32) (main_v24 : FVec F S2048x4 .f32) (main_v41 : FVec F S2048x2048x2 .f32) (main_cst_4 : FVec F S_ .f32) : IVec S_ 1 :=
  let main_v42 : FVec F S2048x2048x2 .f32 := broadcastInDim S2048x2048x2 ![] bcast_S_S2048x2048x2 main_cst_4
  let main_v43 : FVec F S2048x2048x2 .f32 := maximumf main_v41 main_v42
  let main_v44 : FVec F S2048x2048x1 .f32 := (extractStridedSlice S2048x2048x1 ![0, 0, 0] · slices_S2048x2048x2_S2048x2048x1_0_0_0) main_v43
  let main_v45 : FVec F S2048x2048 .f32 := shapeCast S2048x2048 main_v44 shapeCasts_S2048x2048x1_S2048x2048
  let main_v46 : FVec F S2048x2048x1 .f32 := (extractStridedSlice S2048x2048x1 ![0, 0, 1] · slices_S2048x2048x2_S2048x2048x1_0_0_1) main_v43
  let main_v47 : FVec F S2048x2048 .f32 := shapeCast S2048x2048 main_v46 shapeCasts_S2048x2048x1_S2048x2048
  let main_v48 : FVec F S2048x2048 .f32 := mulf main_v45 main_v47
  let main_v49 : FVec F S2048x1 .f32 := (extractStridedSlice S2048x1 ![0, 2] · slices_S2048x4_S2048x1_0_2) main_v24
  let main_v50 : FVec F S2048 .f32 := shapeCast S2048 main_v49 shapeCasts_S2048x1_S2048
  let main_v51 : FVec F S2048x1 .f32 := (extractStridedSlice S2048x1 ![0, 0] · slices_S2048x4_S2048x1_0_0) main_v24
  let main_v52 : FVec F S2048 .f32 := shapeCast S2048 main_v51 shapeCasts_S2048x1_S2048
  let main_v53 : FVec F S2048 .f32 := subf main_v50 main_v52
  let main_cst_5 : FVec F S_ .f32 := constant S_ .f32 0x3F800000#32
  let main_v54 : FVec F S2048 .f32 := broadcastInDim S2048 ![] bcast_S_S2048 main_cst_5
  let main_v55 : FVec F S2048 .f32 := addf main_v53 main_v54
  let main_v56 : FVec F S2048x1 .f32 := (extractStridedSlice S2048x1 ![0, 3] · slices_S2048x4_S2048x1_0_3) main_v24
  let main_v57 : FVec F S2048 .f32 := shapeCast S2048 main_v56 shapeCasts_S2048x1_S2048
  let main_v58 : FVec F S2048x1 .f32 := (extractStridedSlice S2048x1 ![0, 1] · slices_S2048x4_S2048x1_0_1) main_v24
  let main_v59 : FVec F S2048 .f32 := shapeCast S2048 main_v58 shapeCasts_S2048x1_S2048
  let main_v60 : FVec F S2048 .f32 := subf main_v57 main_v59
  let main_cst_6 : FVec F S_ .f32 := constant S_ .f32 0x3F800000#32
  let main_v61 : FVec F S2048 .f32 := broadcastInDim S2048 ![] bcast_S_S2048 main_cst_6
  let main_v62 : FVec F S2048 .f32 := addf main_v60 main_v61
  let main_v63 : FVec F S2048 .f32 := mulf main_v55 main_v62
  fn_part3 (F := F) main_arg0 main_arg1 main_v24 main_v48 main_v63

def fn_part1 {F : FTy → Type} [FloatOps F] (main_arg0 : FVec F S512x4 .f32) (main_arg1 : FVec F S2048x4 .f32) (main_v10 : FVec F S2048 .f32) (main_v13 : FVec F S2048 .f32) (main_v16 : FVec F S2048 .f32) (main_v19 : FVec F S2048 .f32) : IVec S_ 1 :=
  let main_v20 : FVec F S2048x1 .f32 := broadcastInDim S2048x1 ![0] bcast_S2048_S2048x1_0 main_v10
  let main_v21 : FVec F S2048x1 .f32 := broadcastInDim S2048x1 ![0] bcast_S2048_S2048x1_0 main_v13
  let main_v22 : FVec F S2048x1 .f32 := broadcastInDim S2048x1 ![0] bcast_S2048_S2048x1_0 main_v16
  let main_v23 : FVec F S2048x1 .f32 := broadcastInDim S2048x1 ![0] bcast_S2048_S2048x1_0 main_v19
  let main_v24 : FVec F S2048x4 .f32 := concatenate S2048x4 1 [⟨S2048x1, main_v20⟩, ⟨S2048x1, main_v21⟩, ⟨S2048x1, main_v22⟩, ⟨S2048x1, main_v23⟩] concatenates_S2048x1_S2048x1_S2048x1_S2048x1_S2048x4_d1
  let main_v25 : FVec F S2048x2 .f32 := (extractStridedSlice S2048x2 ![0, 0] · slices_S2048x4_S2048x2_0_0) main_v24
  let main_v26 : FVec F S2048x1x2 .f32 := broadcastInDim S2048x1x2 ![0, 2] bcast_S2048x2_S2048x1x2_0_2 main_v25
  let main_v27 : FVec F S2048x2 .f32 := (extractStridedSlice S2048x2 ![0, 0] · slices_S2048x4_S2048x2_0_0) main_v24
  let main_v28 : FVec F S1x2048x2 .f32 := broadcastInDim S1x2048x2 ![1, 2] bcast_S2048x2_S1x2048x2_1_2 main_v27
  let main_v29 : FVec F S2048x2048x2 .f32 := broadcastInDim S2048x2048x2 ![0, 1, 2] bcast_S2048x1x2_S2048x2048x2_0_1_2 main_v26
  let main_v30 : FVec F S2048x2048x2 .f32 := broadcastInDim S2048x2048x2 ![0, 1, 2] bcast_S1x2048x2_S2048x2048x2_0_1_2 main_v28
  let main_v31 : FVec F S2048x2048x2 .f32 := maximumf main_v29 main_v30
  let main_v32 : FVec F S2048x2 .f32 := (extractStridedSlice S2048x2 ![0, 2] · slices_S2048x4_S2048x2_0_2) main_v24
  let main_v33 : FVec F S2048x1x2 .f32 := broadcastInDim S2048x1x2 ![0, 2] bcast_S2048x2_S2048x1x2_0_2 main_v32
  let main_v34 : FVec F S2048x2 .f32 := (extractStridedSlice S2048x2 ![0, 2] · slices_S2048x4_S2048x2_0_2) main_v24
  let main_v35 : FVec F S1x2048x2 .f32 := broadcastInDim S1x2048x2 ![1, 2] bcast_S2048x2_S1x2048x2_1_2 main_v34
  let main_v36 : FVec F S2048x2048x2 .f32 := broadcastInDim S2048x2048x2 ![0, 1, 2] bcast_S2048x1x2_S2048x2048x2_0_1_2 main_v33
  let main_v37 : FVec F S2048x2048x2 .f32 := broadcastInDim S2048x2048x2 ![0, 1, 2] bcast_S1x2048x2_S2048x2048x2_0_1_2 main_v35
  let main_v38 : FVec F S2048x2048x2 .f32 := minimumf main_v36 main_v37
  let main_v39 : FVec F S2048x2048x2 .f32 := subf main_v38 main_v31
  let main_cst_3 : FVec F S_ .f32 := constant S_ .f32 0x3F800000#32
  let main_v40 : FVec F S2048x2048x2 .f32 := broadcastInDim S2048x2048x2 ![] bcast_S_S2048x2048x2 main_cst_3
  let main_v41 : FVec F S2048x2048x2 .f32 := addf main_v39 main_v40
  let main_cst_4 : FVec F S_ .f32 := constant S_ .f32 0x00000000#32
  fn_part2 (F := F) main_arg0 main_arg1 main_v24 main_v41 main_cst_4

def fn {F : FTy → Type} [FloatOps F] (main_arg0 : FVec F S512x4 .f32) (main_arg1 : FVec F S2048x4 .f32) : IVec S_ 1 :=
  let main_v0 : FVec F S2048x1 .f32 := (extractStridedSlice S2048x1 ![0, 0] · slices_S2048x4_S2048x1_0_0) main_arg1
  let main_v1 : FVec F S2048 .f32 := shapeCast S2048 main_v0 shapeCasts_S2048x1_S2048
  let main_v2 : FVec F S2048x1 .f32 := (extractStridedSlice S2048x1 ![0, 1] · slices_S2048x4_S2048x1_0_1) main_arg1
  let main_v3 : FVec F S2048 .f32 := shapeCast S2048 main_v2 shapeCasts_S2048x1_S2048
  let main_v4 : FVec F S2048x1 .f32 := (extractStridedSlice S2048x1 ![0, 2] · slices_S2048x4_S2048x1_0_2) main_arg1
  let main_v5 : FVec F S2048 .f32 := shapeCast S2048 main_v4 shapeCasts_S2048x1_S2048
  let main_v6 : FVec F S2048x1 .f32 := (extractStridedSlice S2048x1 ![0, 3] · slices_S2048x4_S2048x1_0_3) main_arg1
  let main_v7 : FVec F S2048 .f32 := shapeCast S2048 main_v6 shapeCasts_S2048x1_S2048
  let main_cst : FVec F S_ .f32 := constant S_ .f32 0x40000000#32
  let main_v8 : FVec F S2048 .f32 := broadcastInDim S2048 ![] bcast_S_S2048 main_cst
  let main_v9 : FVec F S2048 .f32 := Host.divf main_v5 main_v8
  let main_v10 : FVec F S2048 .f32 := subf main_v1 main_v9
  let main_cst_0 : FVec F S_ .f32 := constant S_ .f32 0x40000000#32
  let main_v11 : FVec F S2048 .f32 := broadcastInDim S2048 ![] bcast_S_S2048 main_cst_0
  let main_v12 : FVec F S2048 .f32 := Host.divf main_v7 main_v11
  let main_v13 : FVec F S2048 .f32 := subf main_v3 main_v12
  let main_cst_1 : FVec F S_ .f32 := constant S_ .f32 0x40000000#32
  let main_v14 : FVec F S2048 .f32 := broadcastInDim S2048 ![] bcast_S_S2048 main_cst_1
  let main_v15 : FVec F S2048 .f32 := Host.divf main_v5 main_v14
  let main_v16 : FVec F S2048 .f32 := addf main_v1 main_v15
  let main_cst_2 : FVec F S_ .f32 := constant S_ .f32 0x40000000#32
  let main_v17 : FVec F S2048 .f32 := broadcastInDim S2048 ![] bcast_S_S2048 main_cst_2
  let main_v18 : FVec F S2048 .f32 := Host.divf main_v7 main_v17
  let main_v19 : FVec F S2048 .f32 := addf main_v3 main_v18
  fn_part1 (F := F) main_arg0 main_arg1 main_v10 main_v13 main_v16 main_v19
-- ==== Pre_boxes.lean ====
abbrev S512x4 : Shape := ⟨2, ![512, 4]⟩
abbrev S2048x4 : Shape := ⟨2, ![2048, 4]⟩
abbrev S_ : Shape := ⟨0, ![]⟩
abbrev S512x2 : Shape := ⟨2, ![512, 2]⟩
abbrev S2048x2 : Shape := ⟨2, ![2048, 2]⟩

class Facts : Prop where
  bcast_S_S512x4 : S_.BroadcastsInDim S512x4 (![] : Fin 0 → Fin S512x4.rank)
  reducesTo_S512x4_S_d0_1 : S512x4.ReducesTo [0, 1] S_
  h_S_ : 0 < S_.numel
  slices_S512x4_S512x2_0_2 : S512x4.Slices ![0, 2] S512x2
  bcast_S_S512x2 : S_.BroadcastsInDim S512x2 (![] : Fin 0 → Fin S512x2.rank)
  reducesTo_S512x2_S_d0_1 : S512x2.ReducesTo [0, 1] S_
  bcast_S_S2048x4 : S_.BroadcastsInDim S2048x4 (![] : Fin 0 → Fin S2048x4.rank)
  reducesTo_S2048x4_S_d0_1 : S2048x4.ReducesTo [0, 1] S_
  slices_S2048x4_S2048x2_0_2 : S2048x4.Slices ![0, 2] S2048x2
  bcast_S_S2048x2 : S_.BroadcastsInDim S2048x2 (![] : Fin 0 → Fin S2048x2.rank)
  reducesTo_S2048x2_S_d0_1 : S2048x2.ReducesTo [0, 1] S_

variable [Facts]

def fn_part1 {F : FTy → Type} [FloatOps F] (main_v8 : IVec S_ 1) (main_v12 : IVec S_ 1) (main_v15 : IVec S2048x2 1) (main_c_5 : IVec S_ 1) : IVec S_ 1 :=
  let main_v16 : IVec S_ 1 := (fun x v => Host.reduce IntOp.andi x v reducesTo_S2048x2_S_d0_1 h_S_) main_v15 main_c_5
  let main_v17 : IVec S_ 1 := andi main_v12 main_v16
  let main_v18 : IVec S_ 1 := andi main_v8 main_v17
  main_v18

def fn {F : FTy → Type} [FloatOps F] (main_arg0 : FVec F S512x4 .f32) (main_arg1 : FVec F S2048x4 .f32) : IVec S_ 1 :=
  let main_v0 : FVec F S512x4 .f32 := Host.absf main_arg0
  let main_cst : FVec F S_ .f32 := constant S_ .f32 0x7F800000#32
  let main_v1 : FVec F S512x4 .f32 := broadcastInDim S512x4 ![] bcast_S_S512x4 main_cst
  let main_v2 : IVec S512x4 1 := cmpf .olt main_v0 main_v1
  let main_c : IVec S_ 1 := constantI S_ 1 1#1
  let main_v3 : IVec S_ 1 := (fun x v => Host.reduce IntOp.andi x v reducesTo_S512x4_S_d0_1 h_S_) main_v2 main_c
  let main_v4 : FVec F S512x2 .f32 := (extractStridedSlice S512x2 ![0, 2] · slices_S512x4_S512x2_0_2) main_arg0
  let main_cst_0 : FVec F S_ .f32 := constant S_ .f32 0x00000000#32
  let main_v5 : FVec F S512x2 .f32 := broadcastInDim S512x2 ![] bcast_S_S512x2 main_cst_0
  let main_v6 : IVec S512x2 1 := cmpf .oge main_v4 main_v5
  let main_c_1 : IVec S_ 1 := constantI S_ 1 1#1
  let main_v7 : IVec S_ 1 := (fun x v => Host.reduce IntOp.andi x v reducesTo_S512x2_S_d0_1 h_S_) main_v6 main_c_1
  let main_v8 : IVec S_ 1 := andi main_v3 main_v7
  let main_v9 : FVec F S2048x4 .f32 := Host.absf main_arg1
  let main_cst_2 : FVec F S_ .f32 := constant S_ .f32 0x7F800000#32
  let main_v10 : FVec F S2048x4 .f32 := broadcastInDim S2048x4 ![] bcast_S_S2048x4 main_cst_2
  let main_v11 : IVec S2048x4 1 := cmpf .olt main_v9 main_v10
  let main_c_3 : IVec S_ 1 := constantI S_ 1 1#1
  let main_v12 : IVec S_ 1 := (fun x v => Host.reduce IntOp.andi x v reducesTo_S2048x4_S_d0_1 h_S_) main_v11 main_c_3
  let main_v13 : FVec F S2048x2 .f32 := (extractStridedSlice S2048x2 ![0, 2] · slices_S2048x4_S2048x2_0_2) main_arg1
  let main_cst_4 : FVec F S_ .f32 := constant S_ .f32 0x00000000#32
  let main_v14 : FVec F S2048x2 .f32 := broadcastInDim S2048x2 ![] bcast_S_S2048x2 main_cst_4
  let main_v15 : IVec S2048x2 1 := cmpf .oge main_v13 main_v14
  let main_c_5 : IVec S_ 1 := constantI S_ 1 1#1
  fn_part1 (F := F) main_v8 main_v12 main_v15 main_c_5
-- ==== Kernel.lean ====
abbrev S512x4 : Shape := ⟨2, ![512, 4]⟩
abbrev S2048x4 : Shape := ⟨2, ![2048, 4]⟩
abbrev S4x512 : Shape := ⟨2, ![4, 512]⟩
abbrev S4x2048 : Shape := ⟨2, ![4, 2048]⟩
abbrev S1x1 : Shape := ⟨2, ![1, 1]⟩
abbrev S3 : Shape := ⟨1, ![3]⟩
abbrev S1 : Shape := ⟨1, ![1]⟩
abbrev S1x2048 : Shape := ⟨2, ![1, 2048]⟩
abbrev S512x1 : Shape := ⟨2, ![512, 1]⟩
abbrev S512x2048 : Shape := ⟨2, ![512, 2048]⟩
abbrev S2048 : Shape := ⟨1, ![2048]⟩
abbrev S1x512 : Shape := ⟨2, ![1, 512]⟩
abbrev S1x4x2048 : Shape := ⟨3, ![1, 4, 2048]⟩
abbrev S1x1x1 : Shape := ⟨3, ![1, 1, 1]⟩
abbrev S1x1x2048 : Shape := ⟨3, ![1, 1, 2048]⟩
abbrev S512x512 : Shape := ⟨2, ![512, 512]⟩
abbrev S256x512 : Shape := ⟨2, ![256, 512]⟩
abbrev S128x512 : Shape := ⟨2, ![128, 512]⟩
abbrev S64x512 : Shape := ⟨2, ![64, 512]⟩
abbrev S1x64x512 : Shape := ⟨3, ![1, 64, 512]⟩

abbrev nBuf : Space → Nat
  | .hbm => 5
  | .vmem => 4
  | .smem => 2
  | _ => 0

abbrev bufTy : (tb : Table) → Fin (tcTables nBuf tb) → BufTy
  | .hbm, ⟨0, _⟩ => ⟨S512x4, .f32⟩
  | .hbm, ⟨1, _⟩ => ⟨S2048x4, .f32⟩
  | .hbm, ⟨2, _⟩ => ⟨S4x512, .f32⟩
  | .hbm, ⟨3, _⟩ => ⟨S4x2048, .f32⟩
  | .hbm, ⟨4, _⟩ => ⟨S1x1, .f32⟩
  | .local _ .vmem, ⟨0, _⟩ => ⟨S512x4, .f32⟩
  | .local _ .vmem, ⟨1, _⟩ => ⟨S4x512, .f32⟩
  | .local _ .vmem, ⟨2, _⟩ => ⟨S2048x4, .f32⟩
  | .local _ .vmem, ⟨3, _⟩ => ⟨S4x2048, .f32⟩
  | .local _ .smem, ⟨0, _⟩ => ⟨S1x1, .f32⟩
  | .local _ .smem, ⟨1, _⟩ => ⟨S3, .f32⟩
  | _, _ => ⟨S512x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.smem, 0, rfl⟩
abbrev cc0_scratch0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let c512_i32 : BitVec 32 := 512#32
  let v3 : BitVec 32 := Scalar.muli arg0 c512_i32
  let v7 : Index := Scalar.indexCast v3
  let c0 : Index := 0#32
  ![v7.toNat, 0]
def k0_off2 (i : grid0.Coords) : Fin 2 → Nat :=
  let arg0 : BitVec 32 := BitVec.ofNat 32 (i 0).val
  let c512_i32 : BitVec 32 := 512#32
  let v3 : BitVec 32 := Scalar.muli arg0 c512_i32
  let v9 : Index := Scalar.indexCast v3
  let c1 : Index := 1#32
  ![v9.toNat, 1]
def k0_off3 (i : grid0.Coords) : Fin 2 → Nat :=
  let arg0 : BitVec 32 := BitVec.ofNat 32 (i 0).val
  let c512_i32 : BitVec 32 := 512#32
  let v3 : BitVec 32 := Scalar.muli arg0 c512_i32
  let v11 : Index := Scalar.indexCast v3
  let c2 : Index := 2#32
  ![v11.toNat, 2]
def k0_off4 (i : grid0.Coords) : Fin 2 → Nat :=
  let arg0 : BitVec 32 := BitVec.ofNat 32 (i 0).val
  let c512_i32 : BitVec 32 := 512#32
  let v3 : BitVec 32 := Scalar.muli arg0 c512_i32
  let v13 : Index := Scalar.indexCast v3
  let c3 : Index := 3#32
  ![v13.toNat, 3]
@[reducible] def k0_t1_loop (i : grid0.Coords) : Scf.Loop 32 :=
  let c0_i32_10 : BitVec 32 := 0#32
  let arg0 : BitVec 32 := BitVec.ofNat 32 (i 0).val
  let v53 : BitVec 32 := Scalar.subi arg0 c0_i32_10
  let c1_i32 : BitVec 32 := 1#32
  let v55 : BitVec 32 := Scalar.divsi v53 c1_i32
  let v56 : BitVec 32 := Scalar.muli v55 c1_i32
  let v57 : BitVec 32 := Scalar.addi c0_i32_10 v56
  let c1_i32_12 : BitVec 32 := 1#32
  ⟨c0_i32_10, v57, c1_i32_12⟩
def k0_off5 (i : grid0.Coords) (k0_t1 : Fin (k0_t1_loop i).trips) : Fin 2 → Nat :=
  let c0_37 : Index := 0#32
  let c0_i32_10 : BitVec 32 := 0#32
  let c1_i32_12 : BitVec 32 := 1#32
  let arg7 : BitVec 32 := Scf.iv c0_i32_10 c1_i32_12 k0_t1
  let c512_i32_36 : BitVec 32 := 512#32
  let v166 : BitVec 32 := Scalar.muli arg7 c512_i32_36
  let v167 : Index := Scalar.indexCast v166
  ![0, v167.toNat]
def k0_off6 (i : grid0.Coords) (k0_t1 : Fin (k0_t1_loop i).trips) : Fin 2 → Nat :=
  let c1_38 : Index := 1#32
  let c0_i32_10 : BitVec 32 := 0#32
  let c1_i32_12 : BitVec 32 := 1#32
  let arg7 : BitVec 32 := Scf.iv c0_i32_10 c1_i32_12 k0_t1
  let c512_i32_36 : BitVec 32 := 512#32
  let v166 : BitVec 32 := Scalar.muli arg7 c512_i32_36
  let v170 : Index := Scalar.indexCast v166
  ![1, v170.toNat]
def k0_off7 (i : grid0.Coords) (k0_t1 : Fin (k0_t1_loop i).trips) : Fin 2 → Nat :=
  let c2_39 : Index := 2#32
  let c0_i32_10 : BitVec 32 := 0#32
  let c1_i32_12 : BitVec 32 := 1#32
  let arg7 : BitVec 32 := Scf.iv c0_i32_10 c1_i32_12 k0_t1
  let c512_i32_36 : BitVec 32 := 512#32
  let v166 : BitVec 32 := Scalar.muli arg7 c512_i32_36
  let v173 : Index := Scalar.indexCast v166
  ![2, v173.toNat]
def k0_off8 (i : grid0.Coords) (k0_t1 : Fin (k0_t1_loop i).trips) : Fin 2 → Nat :=
  let c3_40 : Index := 3#32
  let c0_i32_10 : BitVec 32 := 0#32
  let c1_i32_12 : BitVec 32 := 1#32
  let arg7 : BitVec 32 := Scf.iv c0_i32_10 c1_i32_12 k0_t1
  let c512_i32_36 : BitVec 32 := 512#32
  let v166 : BitVec 32 := Scalar.muli arg7 c512_i32_36
  let v176 : Index := Scalar.indexCast v166
  ![3, v176.toNat]
@[reducible] def k0_t2_loop (i : grid0.Coords) : Scf.Loop 32 :=
  let c0_i32_10 : BitVec 32 := 0#32
  let arg0 : BitVec 32 := BitVec.ofNat 32 (i 0).val
  let v53 : BitVec 32 := Scalar.subi arg0 c0_i32_10
  let c1_i32 : BitVec 32 := 1#32
  let v55 : BitVec 32 := Scalar.divsi v53 c1_i32
  let v56 : BitVec 32 := Scalar.muli v55 c1_i32
  let v57 : BitVec 32 := Scalar.addi c0_i32_10 v56
  let v54 : BitVec 32 := Scalar.addi c0_i32_10 v53
  let c1_i32_13 : BitVec 32 := 1#32
  ⟨v57, v54, c1_i32_13⟩
def k0_off9 (i : grid0.Coords) (k0_t2 : Fin (k0_t2_loop i).trips) : Fin 2 → Nat :=
  let c0_37 : Index := 0#32
  let c0_i32_10 : BitVec 32 := 0#32
  let arg0 : BitVec 32 := BitVec.ofNat 32 (i 0).val
  let v53 : BitVec 32 := Scalar.subi arg0 c0_i32_10
  let c1_i32 : BitVec 32 := 1#32
  let v55 : BitVec 32 := Scalar.divsi v53 c1_i32
  let v56 : BitVec 32 := Scalar.muli v55 c1_i32
  let v57 : BitVec 32 := Scalar.addi c0_i32_10 v56
  let c1_i32_13 : BitVec 32 := 1#32
  let arg7 : BitVec 32 := Scf.iv v57 c1_i32_13 k0_t2
  let c512_i32_36 : BitVec 32 := 512#32
  let v166 : BitVec 32 := Scalar.muli arg7 c512_i32_36
  let v167 : Index := Scalar.indexCast v166
  ![0, v167.toNat]
def k0_off10 (i : grid0.Coords) (k0_t2 : Fin (k0_t2_loop i).trips) : Fin 2 → Nat :=
  let c1_38 : Index := 1#32
  let c0_i32_10 : BitVec 32 := 0#32
  let arg0 : BitVec 32 := BitVec.ofNat 32 (i 0).val
  let v53 : BitVec 32 := Scalar.subi arg0 c0_i32_10
  let c1_i32 : BitVec 32 := 1#32
  let v55 : BitVec 32 := Scalar.divsi v53 c1_i32
  let v56 : BitVec 32 := Scalar.muli v55 c1_i32
  let v57 : BitVec 32 := Scalar.addi c0_i32_10 v56
  let c1_i32_13 : BitVec 32 := 1#32
  let arg7 : BitVec 32 := Scf.iv v57 c1_i32_13 k0_t2
  let c512_i32_36 : BitVec 32 := 512#32
  let v166 : BitVec 32 := Scalar.muli arg7 c512_i32_36
  let v170 : Index := Scalar.indexCast v166
  ![1, v170.toNat]
def k0_off11 (i : grid0.Coords) (k0_t2 : Fin (k0_t2_loop i).trips) : Fin 2 → Nat :=
  let c2_39 : Index := 2#32
  let c0_i32_10 : BitVec 32 := 0#32
  let arg0 : BitVec 32 := BitVec.ofNat 32 (i 0).val
  let v53 : BitVec 32 := Scalar.subi arg0 c0_i32_10
  let c1_i32 : BitVec 32 := 1#32
  let v55 : BitVec 32 := Scalar.divsi v53 c1_i32
  let v56 : BitVec 32 := Scalar.muli v55 c1_i32
  let v57 : BitVec 32 := Scalar.addi c0_i32_10 v56
  let c1_i32_13 : BitVec 32 := 1#32
  let arg7 : BitVec 32 := Scf.iv v57 c1_i32_13 k0_t2
  let c512_i32_36 : BitVec 32 := 512#32
  let v166 : BitVec 32 := Scalar.muli arg7 c512_i32_36
  let v173 : Index := Scalar.indexCast v166
  ![2, v173.toNat]
def k0_off12 (i : grid0.Coords) (k0_t2 : Fin (k0_t2_loop i).trips) : Fin 2 → Nat :=
  let c3_40 : Index := 3#32
  let c0_i32_10 : BitVec 32 := 0#32
  let arg0 : BitVec 32 := BitVec.ofNat 32 (i 0).val
  let v53 : BitVec 32 := Scalar.subi arg0 c0_i32_10
  let c1_i32 : BitVec 32 := 1#32
  let v55 : BitVec 32 := Scalar.divsi v53 c1_i32
  let v56 : BitVec 32 := Scalar.muli v55 c1_i32
  let v57 : BitVec 32 := Scalar.addi c0_i32_10 v56
  let c1_i32_13 : BitVec 32 := 1#32
  let arg7 : BitVec 32 := Scf.iv v57 c1_i32_13 k0_t2
  let c512_i32_36 : BitVec 32 := 512#32
  let v166 : BitVec 32 := Scalar.muli arg7 c512_i32_36
  let v176 : Index := Scalar.indexCast v166
  ![3, v176.toNat]
def k0_off13 (i : grid0.Coords) : Fin 2 → Nat :=
  let c0_15 : Index := 0#32
  let arg0 : BitVec 32 := BitVec.ofNat 32 (i 0).val
  let c512_i32_14 : BitVec 32 := 512#32
  let v62 : BitVec 32 := Scalar.muli arg0 c512_i32_14
  let v64 : Index := Scalar.indexCast v62
  ![0, v64.toNat]
def k0_off14 (i : grid0.Coords) : Fin 2 → Nat :=
  let c1_16 : Index := 1#32
  let arg0 : BitVec 32 := BitVec.ofNat 32 (i 0).val
  let c512_i32_14 : BitVec 32 := 512#32
  let v62 : BitVec 32 := Scalar.muli arg0 c512_i32_14
  let v67 : Index := Scalar.indexCast v62
  ![1, v67.toNat]
def k0_off15 (i : grid0.Coords) : Fin 2 → Nat :=
  let c2_17 : Index := 2#32
  let arg0 : BitVec 32 := BitVec.ofNat 32 (i 0).val
  let c512_i32_14 : BitVec 32 := 512#32
  let v62 : BitVec 32 := Scalar.muli arg0 c512_i32_14
  let v70 : Index := Scalar.indexCast v62
  ![2, v70.toNat]
def k0_off16 (i : grid0.Coords) : Fin 2 → Nat :=
  let c3_18 : Index := 3#32
  let arg0 : BitVec 32 := BitVec.ofNat 32 (i 0).val
  let c512_i32_14 : BitVec 32 := 512#32
  let v62 : BitVec 32 := Scalar.muli arg0 c512_i32_14
  let v73 : Index := Scalar.indexCast v62
  ![3, v73.toNat]
def k0_cond3 (i : grid0.Coords) : BitVec 1 :=
  let arg0 : BitVec 32 := BitVec.ofNat 32 (i 0).val
  let c3_i32 : BitVec 32 := 3#32
  let v163 : BitVec 1 := Scalar.cmpi .eq arg0 c3_i32
  let v164 : BitVec 32 := Scalar.extui v163
  let c0_i32_35 : BitVec 32 := 0#32
  let v165 : BitVec 1 := Scalar.cmpi .ne v164 c0_i32_35
  v165

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== FlooredIdeal.lean ====
abbrev S512x4 : Shape := ⟨2, ![512, 4]⟩
abbrev S2048x4 : Shape := ⟨2, ![2048, 4]⟩
abbrev S512x1 : Shape := ⟨2, ![512, 1]⟩
abbrev S512 : Shape := ⟨1, ![512]⟩
abbrev S_ : Shape := ⟨0, ![]⟩
abbrev S2048x1 : Shape := ⟨2, ![2048, 1]⟩
abbrev S2048 : Shape := ⟨1, ![2048]⟩
abbrev S512x2 : Shape := ⟨2, ![512, 2]⟩
abbrev S512x1x2 : Shape := ⟨3, ![512, 1, 2]⟩
abbrev S2048x2 : Shape := ⟨2, ![2048, 2]⟩
abbrev S1x2048x2 : Shape := ⟨3, ![1, 2048, 2]⟩
abbrev S512x2048x2 : Shape := ⟨3, ![512, 2048, 2]⟩
abbrev S512x2048x1 : Shape := ⟨3, ![512, 2048, 1]⟩
abbrev S512x2048 : Shape := ⟨2, ![512, 2048]⟩
abbrev S1x2048 : Shape := ⟨2, ![1, 2048]⟩
abbrev S2048x1x2 : Shape := ⟨3, ![2048, 1, 2]⟩
abbrev S2048x2048x2 : Shape := ⟨3, ![2048, 2048, 2]⟩
abbrev S2048x2048x1 : Shape := ⟨3, ![2048, 2048, 1]⟩
abbrev S2048x2048 : Shape := ⟨2, ![2048, 2048]⟩
abbrev S1x1 : Shape := ⟨2, ![1, 1]⟩

abbrev nBuf : Space → Nat
  | .hbm => 390
  | .vmem => 0
  | .smem => 0
  | _ => 0

abbrev hbmTy0_0 (i : Nat) : BufTy := match i % 128 with
  | 0 => ⟨S512x4, .f32⟩
  | 1 => ⟨S2048x4, .f32⟩
  | 2 => ⟨S512x1, .f32⟩
  | 3 => ⟨S512, .f32⟩
  | 4 => ⟨S512x1, .f32⟩
  | 5 => ⟨S512, .f32⟩
  | 6 => ⟨S512x1, .f32⟩
  | 7 => ⟨S512, .f32⟩
  | 8 => ⟨S512x1, .f32⟩
  | 9 => ⟨S512, .f32⟩
  | 10 => ⟨S_, .f32⟩
  | 11 => ⟨S512, .f32⟩
  | 12 => ⟨S512, .f32⟩
  | 13 => ⟨S512, .f32⟩
  | 14 => ⟨S_, .f32⟩
  | 15 => ⟨S512, .f32⟩
  | 16 => ⟨S512, .f32⟩
  | 17 => ⟨S512, .f32⟩
  | 18 => ⟨S_, .f32⟩
  | 19 => ⟨S512, .f32⟩
  | 20 => ⟨S512, .f32⟩
  | 21 => ⟨S512, .f32⟩
  | 22 => ⟨S_, .f32⟩
  | 23 => ⟨S512, .f32⟩
  | 24 => ⟨S512, .f32⟩
  | 25 => ⟨S512, .f32⟩
  | 26 => ⟨S512x1, .f32⟩
  | 27 => ⟨S512x1, .f32⟩
  | 28 => ⟨S512x1, .f32⟩
  | 29 => ⟨S512x1, .f32⟩
  | 30 => ⟨S512x4, .f32⟩
  | 31 => ⟨S2048x1, .f32⟩
  | 32 => ⟨S2048, .f32⟩
  | 33 => ⟨S2048x1, .f32⟩
  | 34 => ⟨S2048, .f32⟩
  | 35 => ⟨S2048x1, .f32⟩
  | 36 => ⟨S2048, .f32⟩
  | 37 => ⟨S2048x1, .f32⟩
  | 38 => ⟨S2048, .f32⟩
  | 39 => ⟨S_, .f32⟩
  | 40 => ⟨S2048, .f32⟩
  | 41 => ⟨S2048, .f32⟩
  | 42 => ⟨S2048, .f32⟩
  | 43 => ⟨S_, .f32⟩
  | 44 => ⟨S2048, .f32⟩
  | 45 => ⟨S2048, .f32⟩
  | 46 => ⟨S2048, .f32⟩
  | 47 => ⟨S_, .f32⟩
  | 48 => ⟨S2048, .f32⟩
  | 49 => ⟨S2048, .f32⟩
  | 50 => ⟨S2048, .f32⟩
  | 51 => ⟨S_, .f32⟩
  | 52 => ⟨S2048, .f32⟩
  | 53 => ⟨S2048, .f32⟩
  | 54 => ⟨S2048, .f32⟩
  | 55 => ⟨S2048x1, .f32⟩
  | 56 => ⟨S2048x1, .f32⟩
  | 57 => ⟨S2048x1, .f32⟩
  | 58 => ⟨S2048x1, .f32⟩
  | 59 => ⟨S2048x4, .f32⟩
  | 60 => ⟨S512x2, .f32⟩
  | 61 => ⟨S512x1x2, .f32⟩
  | 62 => ⟨S2048x2, .f32⟩
  | 63 => ⟨S1x2048x2, .f32⟩
  | 64 => ⟨S512x2048x2, .f32⟩
  | 65 => ⟨S512x2048x2, .f32⟩
  | 66 => ⟨S512x2048x2, .f32⟩
  | 67 => ⟨S512x2, .f32⟩
  | 68 => ⟨S512x1x2, .f32⟩
  | 69 => ⟨S2048x2, .f32⟩
  | 70 => ⟨S1x2048x2, .f32⟩
  | 71 => ⟨S512x2048x2, .f32⟩
  | 72 => ⟨S512x2048x2, .f32⟩
  | 73 => ⟨S512x2048x2, .f32⟩
  | 74 => ⟨S512x2048x2, .f32⟩
  | 75 => ⟨S_, .f32⟩
  | 76 => ⟨S512x2048x2, .f32⟩
  | 77 => ⟨S512x2048x2, .f32⟩
  | 78 => ⟨S_, .f32⟩
  | 79 => ⟨S512x2048x2, .f32⟩
  | 80 => ⟨S512x2048x2, .f32⟩
  | 81 => ⟨S512x2048x1, .f32⟩
  | 82 => ⟨S512x2048, .f32⟩
  | 83 => ⟨S512x2048x1, .f32⟩
  | 84 => ⟨S512x2048, .f32⟩
  | 85 => ⟨S512x2048, .f32⟩
  | 86 => ⟨S512x1, .f32⟩
  | 87 => ⟨S512, .f32⟩
  | 88 => ⟨S512x1, .f32⟩
  | 89 => ⟨S512, .f32⟩
  | 90 => ⟨S512, .f32⟩
  | 91 => ⟨S_, .f32⟩
  | 92 => ⟨S512, .f32⟩
  | 93 => ⟨S512, .f32⟩
  | 94 => ⟨S512x1, .f32⟩
  | 95 => ⟨S512, .f32⟩
  | 96 => ⟨S512x1, .f32⟩
  | 97 => ⟨S512, .f32⟩
  | 98 => ⟨S512, .f32⟩
  | 99 => ⟨S_, .f32⟩
  | 100 => ⟨S512, .f32⟩
  | 101 => ⟨S512, .f32⟩
  | 102 => ⟨S512, .f32⟩
  | 103 => ⟨S2048x1, .f32⟩
  | 104 => ⟨S2048, .f32⟩
  | 105 => ⟨S2048x1, .f32⟩
  | 106 => ⟨S2048, .f32⟩
  | 107 => ⟨S2048, .f32⟩
  | 108 => ⟨S_, .f32⟩
  | 109 => ⟨S2048, .f32⟩
  | 110 => ⟨S2048, .f32⟩
  | 111 => ⟨S2048x1, .f32⟩
  | 112 => ⟨S2048, .f32⟩
  | 113 => ⟨S2048x1, .f32⟩
  | 114 => ⟨S2048, .f32⟩
  | 115 => ⟨S2048, .f32⟩
  | 116 => ⟨S_, .f32⟩
  | 117 => ⟨S2048, .f32⟩
  | 118 => ⟨S2048, .f32⟩
  | 119 => ⟨S2048, .f32⟩
  | 120 => ⟨S512x1, .f32⟩
  | 121 => ⟨S1x2048, .f32⟩
  | 122 => ⟨S512x2048, .f32⟩
  | 123 => ⟨S512x2048, .f32⟩
  | 124 => ⟨S512x2048, .f32⟩
  | 125 => ⟨S512x2048, .f32⟩
  | 126 => ⟨S_, .f32⟩
  | 127 => ⟨S512x2048, .f32⟩
  | _ => ⟨S512x4, .f32⟩

abbrev hbmTy0_1 (i : Nat) : BufTy := match i % 128 with
  | 0 => ⟨S512x2048, .f32⟩
  | 1 => ⟨S512x2048, .f32⟩
  | 2 => ⟨S_, .f32⟩
  | 3 => ⟨S_, .f32⟩
  | 4 => ⟨S_, .f32⟩
  | 5 => ⟨S512x2048, .f32⟩
  | 6 => ⟨S512x2048, .f32⟩
  | 7 => ⟨S_, .f32⟩
  | 8 => ⟨S512x2048, .f32⟩
  | 9 => ⟨S512x2048, .f32⟩
  | 10 => ⟨S2048x2, .f32⟩
  | 11 => ⟨S2048x1x2, .f32⟩
  | 12 => ⟨S2048x2, .f32⟩
  | 13 => ⟨S1x2048x2, .f32⟩
  | 14 => ⟨S2048x2048x2, .f32⟩
  | 15 => ⟨S2048x2048x2, .f32⟩
  | 16 => ⟨S2048x2048x2, .f32⟩
  | 17 => ⟨S2048x2, .f32⟩
  | 18 => ⟨S2048x1x2, .f32⟩
  | 19 => ⟨S2048x2, .f32⟩
  | 20 => ⟨S1x2048x2, .f32⟩
  | 21 => ⟨S2048x2048x2, .f32⟩
  | 22 => ⟨S2048x2048x2, .f32⟩
  | 23 => ⟨S2048x2048x2, .f32⟩
  | 24 => ⟨S2048x2048x2, .f32⟩
  | 25 => ⟨S_, .f32⟩
  | 26 => ⟨S2048x2048x2, .f32⟩
  | 27 => ⟨S2048x2048x2, .f32⟩
  | 28 => ⟨S_, .f32⟩
  | 29 => ⟨S2048x2048x2, .f32⟩
  | 30 => ⟨S2048x2048x2, .f32⟩
  | 31 => ⟨S2048x2048x1, .f32⟩
  | 32 => ⟨S2048x2048, .f32⟩
  | 33 => ⟨S2048x2048x1, .f32⟩
  | 34 => ⟨S2048x2048, .f32⟩
  | 35 => ⟨S2048x2048, .f32⟩
  | 36 => ⟨S2048x1, .f32⟩
  | 37 => ⟨S2048, .f32⟩
  | 38 => ⟨S2048x1, .f32⟩
  | 39 => ⟨S2048, .f32⟩
  | 40 => ⟨S2048, .f32⟩
  | 41 => ⟨S_, .f32⟩
  | 42 => ⟨S2048, .f32⟩
  | 43 => ⟨S2048, .f32⟩
  | 44 => ⟨S2048x1, .f32⟩
  | 45 => ⟨S2048, .f32⟩
  | 46 => ⟨S2048x1, .f32⟩
  | 47 => ⟨S2048, .f32⟩
  | 48 => ⟨S2048, .f32⟩
  | 49 => ⟨S_, .f32⟩
  | 50 => ⟨S2048, .f32⟩
  | 51 => ⟨S2048, .f32⟩
  | 52 => ⟨S2048, .f32⟩
  | 53 => ⟨S2048x1, .f32⟩
  | 54 => ⟨S2048, .f32⟩
  | 55 => ⟨S2048x1, .f32⟩
  | 56 => ⟨S2048, .f32⟩
  | 57 => ⟨S2048, .f32⟩
  | 58 => ⟨S_, .f32⟩
  | 59 => ⟨S2048, .f32⟩
  | 60 => ⟨S2048, .f32⟩
  | 61 => ⟨S2048x1, .f32⟩
  | 62 => ⟨S2048, .f32⟩
  | 63 => ⟨S2048x1, .f32⟩
  | 64 => ⟨S2048, .f32⟩
  | 65 => ⟨S2048, .f32⟩
  | 66 => ⟨S_, .f32⟩
  | 67 => ⟨S2048, .f32⟩
  | 68 => ⟨S2048, .f32⟩
  | 69 => ⟨S2048, .f32⟩
  | 70 => ⟨S2048x1, .f32⟩
  | 71 => ⟨S1x2048, .f32⟩
  | 72 => ⟨S2048x2048, .f32⟩
  | 73 => ⟨S2048x2048, .f32⟩
  | 74 => ⟨S2048x2048, .f32⟩
  | 75 => ⟨S2048x2048, .f32⟩
  | 76 => ⟨S_, .f32⟩
  | 77 => ⟨S2048x2048, .f32⟩
  | 78 => ⟨S2048x2048, .f32⟩
  | 79 => ⟨S2048x2048, .f32⟩
  | 80 => ⟨S512x2048, .i32⟩
  | 81 => ⟨S_, .f32⟩
  | 82 => ⟨S2048, .f32⟩
  | 83 => ⟨S1x2048, .f32⟩
  | 84 => ⟨S512x2048, .f32⟩
  | 85 => ⟨S512x2048, .i1⟩
  | 86 => ⟨S_, .i32⟩
  | 87 => ⟨S_, .i32⟩
  | 88 => ⟨S512x2048, .i32⟩
  | 89 => ⟨S512x2048, .i32⟩
  | 90 => ⟨S_, .i32⟩
  | 91 => ⟨S2048, .i32⟩
  | 92 => ⟨S_, .i32⟩
  | 93 => ⟨S2048, .i32⟩
  | 94 => ⟨S2048, .i1⟩
  | 95 => ⟨S_, .i32⟩
  | 96 => ⟨S2048, .i32⟩
  | 97 => ⟨S2048, .i32⟩
  | 98 => ⟨S2048, .i32⟩
  | 99 => ⟨S2048x1, .i32⟩
  | 100 => ⟨S2048x4, .f32⟩
  | 101 => ⟨S2048, .i32⟩
  | 102 => ⟨S_, .i32⟩
  | 103 => ⟨S2048, .i32⟩
  | 104 => ⟨S2048, .i1⟩
  | 105 => ⟨S_, .i32⟩
  | 106 => ⟨S2048, .i32⟩
  | 107 => ⟨S2048, .i32⟩
  | 108 => ⟨S2048, .i32⟩
  | 109 => ⟨S_, .i32⟩
  | 110 => ⟨S2048, .i32⟩
  | 111 => ⟨S2048, .i1⟩
  | 112 => ⟨S_, .i32⟩
  | 113 => ⟨S2048, .i32⟩
  | 114 => ⟨S2048, .i32⟩
  | 115 => ⟨S2048, .i32⟩
  | 116 => ⟨S2048x1, .i32⟩
  | 117 => ⟨S2048x1, .i32⟩
  | 118 => ⟨S2048x2, .i32⟩
  | 119 => ⟨S_, .f32⟩
  | 120 => ⟨S2048, .f32⟩
  | 121 => ⟨S512x2048, .f32⟩
  | 122 => ⟨S512x2048, .i32⟩
  | 123 => ⟨S_, .f32⟩
  | 124 => ⟨S2048, .f32⟩
  | 125 => ⟨S1x2048, .f32⟩
  | 126 => ⟨S512x2048, .f32⟩
  | 127 => ⟨S512x2048, .i1⟩
  | _ => ⟨S512x4, .f32⟩

abbrev hbmTy0_2 (i : Nat) : BufTy := match i % 128 with
  | 0 => ⟨S_, .i32⟩
  | 1 => ⟨S_, .i32⟩
  | 2 => ⟨S512x2048, .i32⟩
  | 3 => ⟨S512x2048, .i32⟩
  | 4 => ⟨S_, .i32⟩
  | 5 => ⟨S2048, .i32⟩
  | 6 => ⟨S_, .i32⟩
  | 7 => ⟨S2048, .i32⟩
  | 8 => ⟨S2048, .i1⟩
  | 9 => ⟨S_, .i32⟩
  | 10 => ⟨S2048, .i32⟩
  | 11 => ⟨S2048, .i32⟩
  | 12 => ⟨S2048, .i32⟩
  | 13 => ⟨S2048x1, .i32⟩
  | 14 => ⟨S2048x4, .f32⟩
  | 15 => ⟨S2048x4, .f32⟩
  | 16 => ⟨S2048x4, .f32⟩
  | 17 => ⟨S_, .f32⟩
  | 18 => ⟨S2048x4, .f32⟩
  | 19 => ⟨S2048x4, .i1⟩
  | 20 => ⟨S2048x4, .f32⟩
  | 21 => ⟨S_, .f32⟩
  | 22 => ⟨S2048x4, .f32⟩
  | 23 => ⟨S2048x4, .f32⟩
  | 24 => ⟨S_, .f32⟩
  | 25 => ⟨S2048x4, .f32⟩
  | 26 => ⟨S2048x4, .f32⟩
  | 27 => ⟨S_, .f32⟩
  | 28 => ⟨S2048x4, .f32⟩
  | 29 => ⟨S2048x4, .f32⟩
  | 30 => ⟨S2048x4, .f32⟩
  | 31 => ⟨S_, .f32⟩
  | 32 => ⟨S_, .f32⟩
  | 33 => ⟨S_, .f32⟩
  | 34 => ⟨S_, .f32⟩
  | 35 => ⟨S2048x1, .f32⟩
  | 36 => ⟨S2048, .f32⟩
  | 37 => ⟨S2048x1, .f32⟩
  | 38 => ⟨S2048, .f32⟩
  | 39 => ⟨S2048, .f32⟩
  | 40 => ⟨S2048x1, .f32⟩
  | 41 => ⟨S2048, .f32⟩
  | 42 => ⟨S2048x1, .f32⟩
  | 43 => ⟨S2048, .f32⟩
  | 44 => ⟨S2048, .f32⟩
  | 45 => ⟨S2048, .f32⟩
  | 46 => ⟨S_, .f32⟩
  | 47 => ⟨S2048, .f32⟩
  | 48 => ⟨S2048, .f32⟩
  | 49 => ⟨S2048x1, .f32⟩
  | 50 => ⟨S2048, .f32⟩
  | 51 => ⟨S2048x1, .f32⟩
  | 52 => ⟨S2048, .f32⟩
  | 53 => ⟨S2048, .f32⟩
  | 54 => ⟨S2048x1, .f32⟩
  | 55 => ⟨S2048, .f32⟩
  | 56 => ⟨S2048x1, .f32⟩
  | 57 => ⟨S2048, .f32⟩
  | 58 => ⟨S2048, .f32⟩
  | 59 => ⟨S2048, .f32⟩
  | 60 => ⟨S_, .f32⟩
  | 61 => ⟨S2048, .f32⟩
  | 62 => ⟨S2048, .f32⟩
  | 63 => ⟨S2048, .f32⟩
  | 64 => ⟨S2048x1, .f32⟩
  | 65 => ⟨S2048, .f32⟩
  | 66 => ⟨S2048x1, .f32⟩
  | 67 => ⟨S2048, .f32⟩
  | 68 => ⟨S2048, .f32⟩
  | 69 => ⟨S2048, .f32⟩
  | 70 => ⟨S2048x1, .f32⟩
  | 71 => ⟨S2048, .f32⟩
  | 72 => ⟨S2048x1, .f32⟩
  | 73 => ⟨S2048, .f32⟩
  | 74 => ⟨S2048, .f32⟩
  | 75 => ⟨S2048, .f32⟩
  | 76 => ⟨S2048, .f32⟩
  | 77 => ⟨S2048, .f32⟩
  | 78 => ⟨S_, .f32⟩
  | 79 => ⟨S2048, .f32⟩
  | 80 => ⟨S2048, .i1⟩
  | 81 => ⟨S_, .f32⟩
  | 82 => ⟨S2048, .f32⟩
  | 83 => ⟨S2048, .f32⟩
  | 84 => ⟨S_, .f32⟩
  | 85 => ⟨S2048, .f32⟩
  | 86 => ⟨S2048, .f32⟩
  | 87 => ⟨S_, .f32⟩
  | 88 => ⟨S2048, .f32⟩
  | 89 => ⟨S2048, .f32⟩
  | 90 => ⟨S_, .f32⟩
  | 91 => ⟨S2048, .f32⟩
  | 92 => ⟨S2048, .f32⟩
  | 93 => ⟨S2048, .f32⟩
  | 94 => ⟨S2048, .f32⟩
  | 95 => ⟨S2048, .f32⟩
  | 96 => ⟨S_, .f32⟩
  | 97 => ⟨S_, .f32⟩
  | 98 => ⟨S_, .f32⟩
  | 99 => ⟨S_, .f32⟩
  | 100 => ⟨S_, .i1⟩
  | 101 => ⟨S2048x2048, .i1⟩
  | 102 => ⟨S2048x2048, .i32⟩
  | 103 => ⟨S_, .i32⟩
  | 104 => ⟨S2048x2048, .i32⟩
  | 105 => ⟨S2048x2048, .i32⟩
  | 106 => ⟨S2048x2048, .i32⟩
  | 107 => ⟨S2048x2048, .i1⟩
  | 108 => ⟨S_, .i1⟩
  | 109 => ⟨S2048x2048, .i1⟩
  | 110 => ⟨S2048x2048, .i1⟩
  | 111 => ⟨S_, .f32⟩
  | 112 => ⟨S2048x2048, .f32⟩
  | 113 => ⟨S2048x2048, .f32⟩
  | 114 => ⟨S_, .f32⟩
  | 115 => ⟨S2048x2048, .f32⟩
  | 116 => ⟨S2048x2048, .f32⟩
  | 117 => ⟨S2048x2048, .f32⟩
  | 118 => ⟨S2048x2048, .f32⟩
  | 119 => ⟨S_, .f32⟩
  | 120 => ⟨S_, .f32⟩
  | 121 => ⟨S2048x2048, .f32⟩
  | 122 => ⟨S2048x2048, .f32⟩
  | 123 => ⟨S_, .f32⟩
  | 124 => ⟨S_, .f32⟩
  | 125 => ⟨S_, .f32⟩
  | 126 => ⟨S_, .f32⟩
  | 127 => ⟨S_, .f32⟩
  | _ => ⟨S512x4, .f32⟩

abbrev hbmTy0_3 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S1x1, .f32⟩
  | _ => ⟨S512x4, .f32⟩

abbrev hbmTy (i : Nat) : BufTy := match i / 128 with
  | 0 => hbmTy0_0 i
  | 1 => hbmTy0_1 i
  | 2 => hbmTy0_2 i
  | 3 => hbmTy0_3 i
  | _ => ⟨S512x4, .f32⟩

abbrev bufTy : (tb : Table) → Fin (tcTables nBuf tb) → BufTy
  | .hbm, ⟨i, _⟩ => hbmTy i
  | _, _ => ⟨S512x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_3 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_4 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_5 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_6 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_cst_7 : Ref sig .tc := ⟨.hbm, 75, rfl⟩
abbrev main_v65 : Ref sig .tc := ⟨.hbm, 76, rfl⟩
abbrev main_v66 : Ref sig .tc := ⟨.hbm, 77, rfl⟩
abbrev main_cst_8 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_cst_9 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_cst_10 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_cst_11 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_cst_12 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_cst_13 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_cst_14 : Ref sig .tc := ⟨.hbm, 130, rfl⟩
abbrev main_cst_15 : Ref sig .tc := ⟨.hbm, 131, rfl⟩
abbrev main_call0_v0 : Ref sig .tc := ⟨.hbm, 132, rfl⟩
abbrev main_call0_v1 : Ref sig .tc := ⟨.hbm, 133, rfl⟩
abbrev main_call0_v2 : Ref sig .tc := ⟨.hbm, 134, rfl⟩
abbrev main_call0_v3 : Ref sig .tc := ⟨.hbm, 135, rfl⟩
abbrev main_call0_v4 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_cst_16 : Ref sig .tc := ⟨.hbm, 153, rfl⟩
abbrev main_v129 : Ref sig .tc := ⟨.hbm, 154, rfl⟩
abbrev main_v130 : Ref sig .tc := ⟨.hbm, 155, rfl⟩
abbrev main_cst_17 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_cst_18 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_cst_19 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_cst_20 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_cst_21 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_cst_22 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_cst_23 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_c : Ref sig .tc := ⟨.hbm, 214, rfl⟩
abbrev main_call1_v0 : Ref sig .tc := ⟨.hbm, 215, rfl⟩
abbrev main_call1_v1 : Ref sig .tc := ⟨.hbm, 216, rfl⟩
abbrev main_v182 : Ref sig .tc := ⟨.hbm, 217, rfl⟩
abbrev main_c_24 : Ref sig .tc := ⟨.hbm, 218, rfl⟩
abbrev main_v183 : Ref sig .tc := ⟨.hbm, 219, rfl⟩
abbrev main_c_25 : Ref sig .tc := ⟨.hbm, 220, rfl⟩
abbrev main_v184 : Ref sig .tc := ⟨.hbm, 221, rfl⟩
abbrev main_v185 : Ref sig .tc := ⟨.hbm, 222, rfl⟩
abbrev main_c_26 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_c_27 : Ref sig .tc := ⟨.hbm, 230, rfl⟩
abbrev main_v192 : Ref sig .tc := ⟨.hbm, 231, rfl⟩
abbrev main_v193 : Ref sig .tc := ⟨.hbm, 232, rfl⟩
abbrev main_c_28 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_c_29 : Ref sig .tc := ⟨.hbm, 237, rfl⟩
abbrev main_v197 : Ref sig .tc := ⟨.hbm, 238, rfl⟩
abbrev main_v198 : Ref sig .tc := ⟨.hbm, 239, rfl⟩
abbrev main_c_30 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_cst_31 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_cst_32 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_c_33 : Ref sig .tc := ⟨.hbm, 256, rfl⟩
abbrev main_call2_v0 : Ref sig .tc := ⟨.hbm, 257, rfl⟩
abbrev main_call2_v1 : Ref sig .tc := ⟨.hbm, 258, rfl⟩
abbrev main_v212 : Ref sig .tc := ⟨.hbm, 259, rfl⟩
abbrev main_c_34 : Ref sig .tc := ⟨.hbm, 260, rfl⟩
abbrev main_v213 : Ref sig .tc := ⟨.hbm, 261, rfl⟩
abbrev main_c_35 : Ref sig .tc := ⟨.hbm, 262, rfl⟩
abbrev main_v214 : Ref sig .tc := ⟨.hbm, 263, rfl⟩
abbrev main_v215 : Ref sig .tc := ⟨.hbm, 264, rfl⟩
abbrev main_c_36 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_cst_37 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_cst_38 : Ref sig .tc := ⟨.hbm, 277, rfl⟩
abbrev main_v226 : Ref sig .tc := ⟨.hbm, 278, rfl⟩
abbrev main_v227 : Ref sig .tc := ⟨.hbm, 279, rfl⟩
abbrev main_cst_39 : Ref sig .tc := ⟨.hbm, 280, rfl⟩
abbrev main_v228 : Ref sig .tc := ⟨.hbm, 281, rfl⟩
abbrev main_v229 : Ref sig .tc := ⟨.hbm, 282, rfl⟩
abbrev main_cst_40 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_cst_41 : Ref sig .tc := ⟨.hbm, 287, rfl⟩
abbrev main_v233 : Ref sig .tc := ⟨.hbm, 288, rfl⟩
abbrev main_cst_42 : Ref sig .tc := ⟨.hbm, 289, rfl⟩
abbrev main_v234 : Ref sig .tc := ⟨.hbm, 290, rfl⟩
abbrev main_v235 : Ref sig .tc := ⟨.hbm, 291, rfl⟩
abbrev main_v236 : Ref sig .tc := ⟨.hbm, 292, rfl⟩
abbrev main_v237 : Ref sig .tc := ⟨.hbm, 293, rfl⟩
abbrev main_v238 : Ref sig .tc := ⟨.hbm, 294, rfl⟩
abbrev main_v239 : Ref sig .tc := ⟨.hbm, 295, rfl⟩
abbrev main_v240 : Ref sig .tc := ⟨.hbm, 296, rfl⟩
abbrev main_v241 : Ref sig .tc := ⟨.hbm, 297, rfl⟩
abbrev main_v242 : Ref sig .tc := ⟨.hbm, 298, rfl⟩
abbrev main_v243 : Ref sig .tc := ⟨.hbm, 299, rfl⟩
abbrev main_v244 : Ref sig .tc := ⟨.hbm, 300, rfl⟩
abbrev main_v245 : Ref sig .tc := ⟨.hbm, 301, rfl⟩
abbrev main_cst_43 : Ref sig .tc := ⟨.hbm, 302, rfl⟩
abbrev main_v246 : Ref sig .tc := ⟨.hbm, 303, rfl⟩
abbrev main_v247 : Ref sig .tc := ⟨.hbm, 304, rfl⟩
abbrev main_v248 : Ref sig .tc := ⟨.hbm, 305, rfl⟩
abbrev main_v249 : Ref sig .tc := ⟨.hbm, 306, rfl⟩
abbrev main_v250 : Ref sig .tc := ⟨.hbm, 307, rfl⟩
abbrev main_v251 : Ref sig .tc := ⟨.hbm, 308, rfl⟩
abbrev main_v252 : Ref sig .tc := ⟨.hbm, 309, rfl⟩
abbrev main_v253 : Ref sig .tc := ⟨.hbm, 310, rfl⟩
abbrev main_v254 : Ref sig .tc := ⟨.hbm, 311, rfl⟩
abbrev main_v255 : Ref sig .tc := ⟨.hbm, 312, rfl⟩
abbrev main_v256 : Ref sig .tc := ⟨.hbm, 313, rfl⟩
abbrev main_v257 : Ref sig .tc := ⟨.hbm, 314, rfl⟩
abbrev main_v258 : Ref sig .tc := ⟨.hbm, 315, rfl⟩
abbrev main_cst_44 : Ref sig .tc := ⟨.hbm, 316, rfl⟩
abbrev main_v259 : Ref sig .tc := ⟨.hbm, 317, rfl⟩
abbrev main_v260 : Ref sig .tc := ⟨.hbm, 318, rfl⟩
abbrev main_v261 : Ref sig .tc := ⟨.hbm, 319, rfl⟩
abbrev main_v262 : Ref sig .tc := ⟨.hbm, 320, rfl⟩
abbrev main_v263 : Ref sig .tc := ⟨.hbm, 321, rfl⟩
abbrev main_v264 : Ref sig .tc := ⟨.hbm, 322, rfl⟩
abbrev main_v265 : Ref sig .tc := ⟨.hbm, 323, rfl⟩
abbrev main_v266 : Ref sig .tc := ⟨.hbm, 324, rfl⟩
abbrev main_v267 : Ref sig .tc := ⟨.hbm, 325, rfl⟩
abbrev main_v268 : Ref sig .tc := ⟨.hbm, 326, rfl⟩
abbrev main_v269 : Ref sig .tc := ⟨.hbm, 327, rfl⟩
abbrev main_v270 : Ref sig .tc := ⟨.hbm, 328, rfl⟩
abbrev main_v271 : Ref sig .tc := ⟨.hbm, 329, rfl⟩
abbrev main_v272 : Ref sig .tc := ⟨.hbm, 330, rfl⟩
abbrev main_v273 : Ref sig .tc := ⟨.hbm, 331, rfl⟩
abbrev main_v274 : Ref sig .tc := ⟨.hbm, 332, rfl⟩
abbrev main_v275 : Ref sig .tc := ⟨.hbm, 333, rfl⟩
abbrev main_cst_45 : Ref sig .tc := ⟨.hbm, 334, rfl⟩
abbrev main_v276 : Ref sig .tc := ⟨.hbm, 335, rfl⟩
abbrev main_v277 : Ref sig .tc := ⟨.hbm, 336, rfl⟩
abbrev main_cst_46 : Ref sig .tc := ⟨.hbm, 337, rfl⟩
abbrev main_v278 : Ref sig .tc := ⟨.hbm, 338, rfl⟩
abbrev main_v279 : Ref sig .tc := ⟨.hbm, 339, rfl⟩
abbrev main_cst_47 : Ref sig .tc := ⟨.hbm, 340, rfl⟩
abbrev main_v280 : Ref sig .tc := ⟨.hbm, 341, rfl⟩
abbrev main_v281 : Ref sig .tc := ⟨.hbm, 342, rfl⟩
abbrev main_cst_48 : Ref sig .tc := ⟨.hbm, 343, rfl⟩
abbrev main_v282 : Ref sig .tc := ⟨.hbm, 344, rfl⟩
abbrev main_v283 : Ref sig .tc := ⟨.hbm, 345, rfl⟩
abbrev main_cst_49 : Ref sig .tc := ⟨.hbm, 346, rfl⟩
abbrev main_v284 : Ref sig .tc := ⟨.hbm, 347, rfl⟩
abbrev main_v285 : Ref sig .tc := ⟨.hbm, 348, rfl⟩
abbrev main_v286 : Ref sig .tc := ⟨.hbm, 349, rfl⟩
abbrev main_v287 : Ref sig .tc := ⟨.hbm, 350, rfl⟩
abbrev main_v288 : Ref sig .tc := ⟨.hbm, 351, rfl⟩
abbrev main_cst_50 : Ref sig .tc := ⟨.hbm, 352, rfl⟩
abbrev main_v289 : Ref sig .tc := ⟨.hbm, 353, rfl⟩
abbrev main_cst_51 : Ref sig .tc := ⟨.hbm, 354, rfl⟩
abbrev main_v290 : Ref sig .tc := ⟨.hbm, 355, rfl⟩
abbrev main_c_52 : Ref sig .tc := ⟨.hbm, 356, rfl⟩
abbrev main_v291 : Ref sig .tc := ⟨.hbm, 357, rfl⟩
abbrev main_call5_v0 : Ref sig .tc := ⟨.hbm, 358, rfl⟩
abbrev main_call5_c : Ref sig .tc := ⟨.hbm, 359, rfl⟩
abbrev main_call5_v1 : Ref sig .tc := ⟨.hbm, 360, rfl⟩
abbrev main_call5_v2 : Ref sig .tc := ⟨.hbm, 361, rfl⟩
abbrev main_call5_v3 : Ref sig .tc := ⟨.hbm, 362, rfl⟩
abbrev main_call5_v4 : Ref sig .tc := ⟨.hbm, 363, rfl⟩
abbrev main_call5_c_0 : Ref sig .tc := ⟨.hbm, 364, rfl⟩
abbrev main_call5_v5 : Ref sig .tc := ⟨.hbm, 365, rfl⟩
abbrev main_v292 : Ref sig .tc := ⟨.hbm, 366, rfl⟩
abbrev main_cst_53 : Ref sig .tc := ⟨.hbm, 367, rfl⟩
abbrev main_v293 : Ref sig .tc := ⟨.hbm, 368, rfl⟩
abbrev main_v294 : Ref sig .tc := ⟨.hbm, 369, rfl⟩
abbrev main_cst_54 : Ref sig .tc := ⟨.hbm, 370, rfl⟩
abbrev main_v295 : Ref sig .tc := ⟨.hbm, 371, rfl⟩
abbrev main_v296 : Ref sig .tc := ⟨.hbm, 372, rfl⟩
abbrev main_v297 : Ref sig .tc := ⟨.hbm, 373, rfl⟩
abbrev main_v298 : Ref sig .tc := ⟨.hbm, 374, rfl⟩
abbrev main_cst_55 : Ref sig .tc := ⟨.hbm, 375, rfl⟩
abbrev main_call6_v0 : Ref sig .tc := ⟨.hbm, 376, rfl⟩
abbrev main_call6_v1 : Ref sig .tc := ⟨.hbm, 377, rfl⟩
abbrev main_v299 : Ref sig .tc := ⟨.hbm, 378, rfl⟩
abbrev main_cst_56 : Ref sig .tc := ⟨.hbm, 379, rfl⟩
abbrev main_v300 : Ref sig .tc := ⟨.hbm, 380, rfl⟩
abbrev main_cst_57 : Ref sig .tc := ⟨.hbm, 381, rfl⟩
abbrev main_v301 : Ref sig .tc := ⟨.hbm, 382, rfl⟩
abbrev main_cst_58 : Ref sig .tc := ⟨.hbm, 383, rfl⟩
abbrev main_v302 : Ref sig .tc := ⟨.hbm, 384, rfl⟩
abbrev main_v303 : Ref sig .tc := ⟨.hbm, 385, rfl⟩
abbrev main_cst_59 : Ref sig .tc := ⟨.hbm, 386, rfl⟩
abbrev main_v304 : Ref sig .tc := ⟨.hbm, 387, rfl⟩
abbrev main_v305 : Ref sig .tc := ⟨.hbm, 388, rfl⟩
abbrev main_v306 : Ref sig .tc := ⟨.hbm, 389, rfl⟩

abbrev nD : Nat := 1
abbrev τ : Topo := Topo.v7x

variable {F : FTy → Type} [FloatOps F]
-- ==== ReferenceIdeal.lean ====
abbrev S512x4 : Shape := ⟨2, ![512, 4]⟩
abbrev S2048x4 : Shape := ⟨2, ![2048, 4]⟩
abbrev S512x1 : Shape := ⟨2, ![512, 1]⟩
abbrev S512 : Shape := ⟨1, ![512]⟩
abbrev S_ : Shape := ⟨0, ![]⟩
abbrev S2048x1 : Shape := ⟨2, ![2048, 1]⟩
abbrev S2048 : Shape := ⟨1, ![2048]⟩
abbrev S512x2 : Shape := ⟨2, ![512, 2]⟩
abbrev S512x1x2 : Shape := ⟨3, ![512, 1, 2]⟩
abbrev S2048x2 : Shape := ⟨2, ![2048, 2]⟩
abbrev S1x2048x2 : Shape := ⟨3, ![1, 2048, 2]⟩
abbrev S512x2048x2 : Shape := ⟨3, ![512, 2048, 2]⟩
abbrev S512x2048x1 : Shape := ⟨3, ![512, 2048, 1]⟩
abbrev S512x2048 : Shape := ⟨2, ![512, 2048]⟩
abbrev S1x2048 : Shape := ⟨2, ![1, 2048]⟩
abbrev S2048x1x2 : Shape := ⟨3, ![2048, 1, 2]⟩
abbrev S2048x2048x2 : Shape := ⟨3, ![2048, 2048, 2]⟩
abbrev S2048x2048x1 : Shape := ⟨3, ![2048, 2048, 1]⟩
abbrev S2048x2048 : Shape := ⟨2, ![2048, 2048]⟩
abbrev S1x1 : Shape := ⟨2, ![1, 1]⟩

abbrev nBuf : Space → Nat
  | .hbm => 408
  | .vmem => 0
  | .smem => 0
  | _ => 0

abbrev hbmTy0_0 (i : Nat) : BufTy := match i % 128 with
  | 0 => ⟨S512x4, .f32⟩
  | 1 => ⟨S2048x4, .f32⟩
  | 2 => ⟨S512x1, .f32⟩
  | 3 => ⟨S512, .f32⟩
  | 4 => ⟨S512x1, .f32⟩
  | 5 => ⟨S512, .f32⟩
  | 6 => ⟨S512x1, .f32⟩
  | 7 => ⟨S512, .f32⟩
  | 8 => ⟨S512x1, .f32⟩
  | 9 => ⟨S512, .f32⟩
  | 10 => ⟨S_, .f32⟩
  | 11 => ⟨S512, .f32⟩
  | 12 => ⟨S512, .f32⟩
  | 13 => ⟨S512, .f32⟩
  | 14 => ⟨S_, .f32⟩
  | 15 => ⟨S512, .f32⟩
  | 16 => ⟨S512, .f32⟩
  | 17 => ⟨S512, .f32⟩
  | 18 => ⟨S_, .f32⟩
  | 19 => ⟨S512, .f32⟩
  | 20 => ⟨S512, .f32⟩
  | 21 => ⟨S512, .f32⟩
  | 22 => ⟨S_, .f32⟩
  | 23 => ⟨S512, .f32⟩
  | 24 => ⟨S512, .f32⟩
  | 25 => ⟨S512, .f32⟩
  | 26 => ⟨S512x1, .f32⟩
  | 27 => ⟨S512x1, .f32⟩
  | 28 => ⟨S512x1, .f32⟩
  | 29 => ⟨S512x1, .f32⟩
  | 30 => ⟨S512x4, .f32⟩
  | 31 => ⟨S2048x1, .f32⟩
  | 32 => ⟨S2048, .f32⟩
  | 33 => ⟨S2048x1, .f32⟩
  | 34 => ⟨S2048, .f32⟩
  | 35 => ⟨S2048x1, .f32⟩
  | 36 => ⟨S2048, .f32⟩
  | 37 => ⟨S2048x1, .f32⟩
  | 38 => ⟨S2048, .f32⟩
  | 39 => ⟨S_, .f32⟩
  | 40 => ⟨S2048, .f32⟩
  | 41 => ⟨S2048, .f32⟩
  | 42 => ⟨S2048, .f32⟩
  | 43 => ⟨S_, .f32⟩
  | 44 => ⟨S2048, .f32⟩
  | 45 => ⟨S2048, .f32⟩
  | 46 => ⟨S2048, .f32⟩
  | 47 => ⟨S_, .f32⟩
  | 48 => ⟨S2048, .f32⟩
  | 49 => ⟨S2048, .f32⟩
  | 50 => ⟨S2048, .f32⟩
  | 51 => ⟨S_, .f32⟩
  | 52 => ⟨S2048, .f32⟩
  | 53 => ⟨S2048, .f32⟩
  | 54 => ⟨S2048, .f32⟩
  | 55 => ⟨S2048x1, .f32⟩
  | 56 => ⟨S2048x1, .f32⟩
  | 57 => ⟨S2048x1, .f32⟩
  | 58 => ⟨S2048x1, .f32⟩
  | 59 => ⟨S2048x4, .f32⟩
  | 60 => ⟨S512x2, .f32⟩
  | 61 => ⟨S512x1x2, .f32⟩
  | 62 => ⟨S2048x2, .f32⟩
  | 63 => ⟨S1x2048x2, .f32⟩
  | 64 => ⟨S512x2048x2, .f32⟩
  | 65 => ⟨S512x2048x2, .f32⟩
  | 66 => ⟨S512x2048x2, .f32⟩
  | 67 => ⟨S512x2, .f32⟩
  | 68 => ⟨S512x1x2, .f32⟩
  | 69 => ⟨S2048x2, .f32⟩
  | 70 => ⟨S1x2048x2, .f32⟩
  | 71 => ⟨S512x2048x2, .f32⟩
  | 72 => ⟨S512x2048x2, .f32⟩
  | 73 => ⟨S512x2048x2, .f32⟩
  | 74 => ⟨S512x2048x2, .f32⟩
  | 75 => ⟨S_, .f32⟩
  | 76 => ⟨S512x2048x2, .f32⟩
  | 77 => ⟨S512x2048x2, .f32⟩
  | 78 => ⟨S_, .f32⟩
  | 79 => ⟨S512x2048x2, .f32⟩
  | 80 => ⟨S512x2048x2, .f32⟩
  | 81 => ⟨S512x2048x1, .f32⟩
  | 82 => ⟨S512x2048, .f32⟩
  | 83 => ⟨S512x2048x1, .f32⟩
  | 84 => ⟨S512x2048, .f32⟩
  | 85 => ⟨S512x2048, .f32⟩
  | 86 => ⟨S512x1, .f32⟩
  | 87 => ⟨S512, .f32⟩
  | 88 => ⟨S512x1, .f32⟩
  | 89 => ⟨S512, .f32⟩
  | 90 => ⟨S512, .f32⟩
  | 91 => ⟨S_, .f32⟩
  | 92 => ⟨S512, .f32⟩
  | 93 => ⟨S512, .f32⟩
  | 94 => ⟨S512x1, .f32⟩
  | 95 => ⟨S512, .f32⟩
  | 96 => ⟨S512x1, .f32⟩
  | 97 => ⟨S512, .f32⟩
  | 98 => ⟨S512, .f32⟩
  | 99 => ⟨S_, .f32⟩
  | 100 => ⟨S512, .f32⟩
  | 101 => ⟨S512, .f32⟩
  | 102 => ⟨S512, .f32⟩
  | 103 => ⟨S2048x1, .f32⟩
  | 104 => ⟨S2048, .f32⟩
  | 105 => ⟨S2048x1, .f32⟩
  | 106 => ⟨S2048, .f32⟩
  | 107 => ⟨S2048, .f32⟩
  | 108 => ⟨S_, .f32⟩
  | 109 => ⟨S2048, .f32⟩
  | 110 => ⟨S2048, .f32⟩
  | 111 => ⟨S2048x1, .f32⟩
  | 112 => ⟨S2048, .f32⟩
  | 113 => ⟨S2048x1, .f32⟩
  | 114 => ⟨S2048, .f32⟩
  | 115 => ⟨S2048, .f32⟩
  | 116 => ⟨S_, .f32⟩
  | 117 => ⟨S2048, .f32⟩
  | 118 => ⟨S2048, .f32⟩
  | 119 => ⟨S2048, .f32⟩
  | 120 => ⟨S512x1, .f32⟩
  | 121 => ⟨S1x2048, .f32⟩
  | 122 => ⟨S512x2048, .f32⟩
  | 123 => ⟨S512x2048, .f32⟩
  | 124 => ⟨S512x2048, .f32⟩
  | 125 => ⟨S512x2048, .f32⟩
  | 126 => ⟨S_, .f32⟩
  | 127 => ⟨S512x2048, .f32⟩
  | _ => ⟨S512x4, .f32⟩

abbrev hbmTy0_1 (i : Nat) : BufTy := match i % 128 with
  | 0 => ⟨S512x2048, .f32⟩
  | 1 => ⟨S512x2048, .f32⟩
  | 2 => ⟨S_, .f32⟩
  | 3 => ⟨S_, .f32⟩
  | 4 => ⟨S_, .f32⟩
  | 5 => ⟨S512x2048, .f32⟩
  | 6 => ⟨S512x2048, .f32⟩
  | 7 => ⟨S_, .f32⟩
  | 8 => ⟨S512x2048, .f32⟩
  | 9 => ⟨S512x2048, .f32⟩
  | 10 => ⟨S2048x2, .f32⟩
  | 11 => ⟨S2048x1x2, .f32⟩
  | 12 => ⟨S2048x2, .f32⟩
  | 13 => ⟨S1x2048x2, .f32⟩
  | 14 => ⟨S2048x2048x2, .f32⟩
  | 15 => ⟨S2048x2048x2, .f32⟩
  | 16 => ⟨S2048x2048x2, .f32⟩
  | 17 => ⟨S2048x2, .f32⟩
  | 18 => ⟨S2048x1x2, .f32⟩
  | 19 => ⟨S2048x2, .f32⟩
  | 20 => ⟨S1x2048x2, .f32⟩
  | 21 => ⟨S2048x2048x2, .f32⟩
  | 22 => ⟨S2048x2048x2, .f32⟩
  | 23 => ⟨S2048x2048x2, .f32⟩
  | 24 => ⟨S2048x2048x2, .f32⟩
  | 25 => ⟨S_, .f32⟩
  | 26 => ⟨S2048x2048x2, .f32⟩
  | 27 => ⟨S2048x2048x2, .f32⟩
  | 28 => ⟨S_, .f32⟩
  | 29 => ⟨S2048x2048x2, .f32⟩
  | 30 => ⟨S2048x2048x2, .f32⟩
  | 31 => ⟨S2048x2048x1, .f32⟩
  | 32 => ⟨S2048x2048, .f32⟩
  | 33 => ⟨S2048x2048x1, .f32⟩
  | 34 => ⟨S2048x2048, .f32⟩
  | 35 => ⟨S2048x2048, .f32⟩
  | 36 => ⟨S2048x1, .f32⟩
  | 37 => ⟨S2048, .f32⟩
  | 38 => ⟨S2048x1, .f32⟩
  | 39 => ⟨S2048, .f32⟩
  | 40 => ⟨S2048, .f32⟩
  | 41 => ⟨S_, .f32⟩
  | 42 => ⟨S2048, .f32⟩
  | 43 => ⟨S2048, .f32⟩
  | 44 => ⟨S2048x1, .f32⟩
  | 45 => ⟨S2048, .f32⟩
  | 46 => ⟨S2048x1, .f32⟩
  | 47 => ⟨S2048, .f32⟩
  | 48 => ⟨S2048, .f32⟩
  | 49 => ⟨S_, .f32⟩
  | 50 => ⟨S2048, .f32⟩
  | 51 => ⟨S2048, .f32⟩
  | 52 => ⟨S2048, .f32⟩
  | 53 => ⟨S2048x1, .f32⟩
  | 54 => ⟨S2048, .f32⟩
  | 55 => ⟨S2048x1, .f32⟩
  | 56 => ⟨S2048, .f32⟩
  | 57 => ⟨S2048, .f32⟩
  | 58 => ⟨S_, .f32⟩
  | 59 => ⟨S2048, .f32⟩
  | 60 => ⟨S2048, .f32⟩
  | 61 => ⟨S2048x1, .f32⟩
  | 62 => ⟨S2048, .f32⟩
  | 63 => ⟨S2048x1, .f32⟩
  | 64 => ⟨S2048, .f32⟩
  | 65 => ⟨S2048, .f32⟩
  | 66 => ⟨S_, .f32⟩
  | 67 => ⟨S2048, .f32⟩
  | 68 => ⟨S2048, .f32⟩
  | 69 => ⟨S2048, .f32⟩
  | 70 => ⟨S2048x1, .f32⟩
  | 71 => ⟨S1x2048, .f32⟩
  | 72 => ⟨S2048x2048, .f32⟩
  | 73 => ⟨S2048x2048, .f32⟩
  | 74 => ⟨S2048x2048, .f32⟩
  | 75 => ⟨S2048x2048, .f32⟩
  | 76 => ⟨S_, .f32⟩
  | 77 => ⟨S2048x2048, .f32⟩
  | 78 => ⟨S2048x2048, .f32⟩
  | 79 => ⟨S2048x2048, .f32⟩
  | 80 => ⟨S_, .f32⟩
  | 81 => ⟨S_, .f32⟩
  | 82 => ⟨S_, .f32⟩
  | 83 => ⟨S2048x2048, .f32⟩
  | 84 => ⟨S2048x2048, .f32⟩
  | 85 => ⟨S_, .f32⟩
  | 86 => ⟨S2048x2048, .f32⟩
  | 87 => ⟨S2048x2048, .f32⟩
  | 88 => ⟨S512x2048, .i32⟩
  | 89 => ⟨S_, .f32⟩
  | 90 => ⟨S2048, .f32⟩
  | 91 => ⟨S1x2048, .f32⟩
  | 92 => ⟨S512x2048, .f32⟩
  | 93 => ⟨S512x2048, .i1⟩
  | 94 => ⟨S_, .i32⟩
  | 95 => ⟨S_, .i32⟩
  | 96 => ⟨S512x2048, .i32⟩
  | 97 => ⟨S512x2048, .i32⟩
  | 98 => ⟨S_, .i32⟩
  | 99 => ⟨S2048, .i32⟩
  | 100 => ⟨S_, .i32⟩
  | 101 => ⟨S2048, .i32⟩
  | 102 => ⟨S2048, .i1⟩
  | 103 => ⟨S_, .i32⟩
  | 104 => ⟨S2048, .i32⟩
  | 105 => ⟨S2048, .i32⟩
  | 106 => ⟨S2048, .i32⟩
  | 107 => ⟨S2048x1, .i32⟩
  | 108 => ⟨S2048x4, .f32⟩
  | 109 => ⟨S2048, .i32⟩
  | 110 => ⟨S_, .i32⟩
  | 111 => ⟨S2048, .i32⟩
  | 112 => ⟨S2048, .i1⟩
  | 113 => ⟨S_, .i32⟩
  | 114 => ⟨S2048, .i32⟩
  | 115 => ⟨S2048, .i32⟩
  | 116 => ⟨S2048, .i32⟩
  | 117 => ⟨S_, .i32⟩
  | 118 => ⟨S2048, .i32⟩
  | 119 => ⟨S2048, .i1⟩
  | 120 => ⟨S_, .i32⟩
  | 121 => ⟨S2048, .i32⟩
  | 122 => ⟨S2048, .i32⟩
  | 123 => ⟨S2048, .i32⟩
  | 124 => ⟨S2048x1, .i32⟩
  | 125 => ⟨S2048x1, .i32⟩
  | 126 => ⟨S2048x2, .i32⟩
  | 127 => ⟨S_, .f32⟩
  | _ => ⟨S512x4, .f32⟩

abbrev hbmTy0_2 (i : Nat) : BufTy := match i % 128 with
  | 0 => ⟨S2048, .f32⟩
  | 1 => ⟨S512x2048, .f32⟩
  | 2 => ⟨S512x2048, .i32⟩
  | 3 => ⟨S_, .f32⟩
  | 4 => ⟨S2048, .f32⟩
  | 5 => ⟨S1x2048, .f32⟩
  | 6 => ⟨S512x2048, .f32⟩
  | 7 => ⟨S512x2048, .i1⟩
  | 8 => ⟨S_, .i32⟩
  | 9 => ⟨S_, .i32⟩
  | 10 => ⟨S512x2048, .i32⟩
  | 11 => ⟨S512x2048, .i32⟩
  | 12 => ⟨S_, .i32⟩
  | 13 => ⟨S2048, .i32⟩
  | 14 => ⟨S_, .i32⟩
  | 15 => ⟨S2048, .i32⟩
  | 16 => ⟨S2048, .i1⟩
  | 17 => ⟨S_, .i32⟩
  | 18 => ⟨S2048, .i32⟩
  | 19 => ⟨S2048, .i32⟩
  | 20 => ⟨S2048, .i32⟩
  | 21 => ⟨S2048x1, .i32⟩
  | 22 => ⟨S2048x4, .f32⟩
  | 23 => ⟨S2048x4, .f32⟩
  | 24 => ⟨S2048x4, .f32⟩
  | 25 => ⟨S_, .f32⟩
  | 26 => ⟨S2048x4, .f32⟩
  | 27 => ⟨S2048x4, .i1⟩
  | 28 => ⟨S2048x4, .f32⟩
  | 29 => ⟨S_, .f32⟩
  | 30 => ⟨S2048x4, .f32⟩
  | 31 => ⟨S2048x4, .f32⟩
  | 32 => ⟨S_, .f32⟩
  | 33 => ⟨S2048x4, .f32⟩
  | 34 => ⟨S2048x4, .f32⟩
  | 35 => ⟨S_, .f32⟩
  | 36 => ⟨S2048x4, .f32⟩
  | 37 => ⟨S2048x4, .f32⟩
  | 38 => ⟨S2048x4, .f32⟩
  | 39 => ⟨S_, .f32⟩
  | 40 => ⟨S_, .f32⟩
  | 41 => ⟨S_, .f32⟩
  | 42 => ⟨S_, .f32⟩
  | 43 => ⟨S2048x1, .f32⟩
  | 44 => ⟨S2048, .f32⟩
  | 45 => ⟨S2048x1, .f32⟩
  | 46 => ⟨S2048, .f32⟩
  | 47 => ⟨S2048, .f32⟩
  | 48 => ⟨S2048x1, .f32⟩
  | 49 => ⟨S2048, .f32⟩
  | 50 => ⟨S2048x1, .f32⟩
  | 51 => ⟨S2048, .f32⟩
  | 52 => ⟨S2048, .f32⟩
  | 53 => ⟨S2048, .f32⟩
  | 54 => ⟨S_, .f32⟩
  | 55 => ⟨S2048, .f32⟩
  | 56 => ⟨S2048, .f32⟩
  | 57 => ⟨S2048x1, .f32⟩
  | 58 => ⟨S2048, .f32⟩
  | 59 => ⟨S2048x1, .f32⟩
  | 60 => ⟨S2048, .f32⟩
  | 61 => ⟨S2048, .f32⟩
  | 62 => ⟨S2048x1, .f32⟩
  | 63 => ⟨S2048, .f32⟩
  | 64 => ⟨S2048x1, .f32⟩
  | 65 => ⟨S2048, .f32⟩
  | 66 => ⟨S2048, .f32⟩
  | 67 => ⟨S2048, .f32⟩
  | 68 => ⟨S_, .f32⟩
  | 69 => ⟨S2048, .f32⟩
  | 70 => ⟨S2048, .f32⟩
  | 71 => ⟨S2048, .f32⟩
  | 72 => ⟨S2048x1, .f32⟩
  | 73 => ⟨S2048, .f32⟩
  | 74 => ⟨S2048x1, .f32⟩
  | 75 => ⟨S2048, .f32⟩
  | 76 => ⟨S2048, .f32⟩
  | 77 => ⟨S2048, .f32⟩
  | 78 => ⟨S2048x1, .f32⟩
  | 79 => ⟨S2048, .f32⟩
  | 80 => ⟨S2048x1, .f32⟩
  | 81 => ⟨S2048, .f32⟩
  | 82 => ⟨S2048, .f32⟩
  | 83 => ⟨S2048, .f32⟩
  | 84 => ⟨S2048, .f32⟩
  | 85 => ⟨S2048, .f32⟩
  | 86 => ⟨S_, .f32⟩
  | 87 => ⟨S2048, .f32⟩
  | 88 => ⟨S2048, .i1⟩
  | 89 => ⟨S_, .f32⟩
  | 90 => ⟨S2048, .f32⟩
  | 91 => ⟨S2048, .f32⟩
  | 92 => ⟨S_, .f32⟩
  | 93 => ⟨S2048, .f32⟩
  | 94 => ⟨S2048, .f32⟩
  | 95 => ⟨S_, .f32⟩
  | 96 => ⟨S2048, .f32⟩
  | 97 => ⟨S2048, .f32⟩
  | 98 => ⟨S_, .f32⟩
  | 99 => ⟨S2048, .f32⟩
  | 100 => ⟨S2048, .f32⟩
  | 101 => ⟨S2048, .f32⟩
  | 102 => ⟨S2048, .f32⟩
  | 103 => ⟨S2048, .f32⟩
  | 104 => ⟨S_, .f32⟩
  | 105 => ⟨S_, .f32⟩
  | 106 => ⟨S_, .f32⟩
  | 107 => ⟨S_, .f32⟩
  | 108 => ⟨S_, .i1⟩
  | 109 => ⟨S2048x2048, .i1⟩
  | 110 => ⟨S2048x2048, .i32⟩
  | 111 => ⟨S_, .i32⟩
  | 112 => ⟨S2048x2048, .i32⟩
  | 113 => ⟨S2048x2048, .i32⟩
  | 114 => ⟨S2048x2048, .i32⟩
  | 115 => ⟨S2048x2048, .i1⟩
  | 116 => ⟨S_, .i1⟩
  | 117 => ⟨S2048x2048, .i1⟩
  | 118 => ⟨S2048x2048, .i1⟩
  | 119 => ⟨S_, .f32⟩
  | 120 => ⟨S2048x2048, .f32⟩
  | 121 => ⟨S2048x2048, .i1⟩
  | 122 => ⟨S_, .f32⟩
  | 123 => ⟨S2048x2048, .f32⟩
  | 124 => ⟨S2048x2048, .f32⟩
  | 125 => ⟨S_, .f32⟩
  | 126 => ⟨S2048x2048, .f32⟩
  | 127 => ⟨S2048x2048, .f32⟩
  | _ => ⟨S512x4, .f32⟩

abbrev hbmTy0_3 (i : Nat) : BufTy := match i % 128 with
  | 0 => ⟨S_, .f32⟩
  | 1 => ⟨S2048x2048, .f32⟩
  | 2 => ⟨S2048x2048, .f32⟩
  | 3 => ⟨S_, .f32⟩
  | 4 => ⟨S2048x2048, .f32⟩
  | 5 => ⟨S2048x2048, .f32⟩
  | 6 => ⟨S2048x2048, .f32⟩
  | 7 => ⟨S2048x2048, .f32⟩
  | 8 => ⟨S2048x2048, .f32⟩
  | 9 => ⟨S_, .f32⟩
  | 10 => ⟨S_, .f32⟩
  | 11 => ⟨S2048x2048, .f32⟩
  | 12 => ⟨S2048x2048, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S1x1, .f32⟩
  | _ => ⟨S512x4, .f32⟩

abbrev hbmTy (i : Nat) : BufTy := match i / 128 with
  | 0 => hbmTy0_0 i
  | 1 => hbmTy0_1 i
  | 2 => hbmTy0_2 i
  | 3 => hbmTy0_3 i
  | _ => ⟨S512x4, .f32⟩

abbrev bufTy : (tb : Table) → Fin (tcTables nBuf tb) → BufTy
  | .hbm, ⟨i, _⟩ => hbmTy i
  | _, _ => ⟨S512x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_3 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_4 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_5 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_6 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_cst_7 : Ref sig .tc := ⟨.hbm, 75, rfl⟩
abbrev main_v65 : Ref sig .tc := ⟨.hbm, 76, rfl⟩
abbrev main_v66 : Ref sig .tc := ⟨.hbm, 77, rfl⟩
abbrev main_cst_8 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_cst_9 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_cst_10 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_cst_11 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_cst_12 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_cst_13 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_cst_14 : Ref sig .tc := ⟨.hbm, 130, rfl⟩
abbrev main_cst_15 : Ref sig .tc := ⟨.hbm, 131, rfl⟩
abbrev main_call0_v0 : Ref sig .tc := ⟨.hbm, 132, rfl⟩
abbrev main_call0_v1 : Ref sig .tc := ⟨.hbm, 133, rfl⟩
abbrev main_call0_v2 : Ref sig .tc := ⟨.hbm, 134, rfl⟩
abbrev main_call0_v3 : Ref sig .tc := ⟨.hbm, 135, rfl⟩
abbrev main_call0_v4 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_cst_16 : Ref sig .tc := ⟨.hbm, 153, rfl⟩
abbrev main_v129 : Ref sig .tc := ⟨.hbm, 154, rfl⟩
abbrev main_v130 : Ref sig .tc := ⟨.hbm, 155, rfl⟩
abbrev main_cst_17 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_cst_18 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_cst_19 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_cst_20 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_cst_21 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_cst_22 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_cst_23 : Ref sig .tc := ⟨.hbm, 208, rfl⟩
abbrev main_cst_24 : Ref sig .tc := ⟨.hbm, 209, rfl⟩
abbrev main_call1_v0 : Ref sig .tc := ⟨.hbm, 210, rfl⟩
abbrev main_call1_v1 : Ref sig .tc := ⟨.hbm, 211, rfl⟩
abbrev main_call1_v2 : Ref sig .tc := ⟨.hbm, 212, rfl⟩
abbrev main_call1_v3 : Ref sig .tc := ⟨.hbm, 213, rfl⟩
abbrev main_call1_v4 : Ref sig .tc := ⟨.hbm, 214, rfl⟩
abbrev main_v177 : Ref sig .tc := ⟨.hbm, 215, rfl⟩
abbrev main_v178 : Ref sig .tc := ⟨.hbm, 216, rfl⟩
abbrev main_cst_25 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_c : Ref sig .tc := ⟨.hbm, 222, rfl⟩
abbrev main_call2_v0 : Ref sig .tc := ⟨.hbm, 223, rfl⟩
abbrev main_call2_v1 : Ref sig .tc := ⟨.hbm, 224, rfl⟩
abbrev main_v183 : Ref sig .tc := ⟨.hbm, 225, rfl⟩
abbrev main_c_26 : Ref sig .tc := ⟨.hbm, 226, rfl⟩
abbrev main_v184 : Ref sig .tc := ⟨.hbm, 227, rfl⟩
abbrev main_c_27 : Ref sig .tc := ⟨.hbm, 228, rfl⟩
abbrev main_v185 : Ref sig .tc := ⟨.hbm, 229, rfl⟩
abbrev main_v186 : Ref sig .tc := ⟨.hbm, 230, rfl⟩
abbrev main_c_28 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_c_29 : Ref sig .tc := ⟨.hbm, 238, rfl⟩
abbrev main_v193 : Ref sig .tc := ⟨.hbm, 239, rfl⟩
abbrev main_v194 : Ref sig .tc := ⟨.hbm, 240, rfl⟩
abbrev main_c_30 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_c_31 : Ref sig .tc := ⟨.hbm, 245, rfl⟩
abbrev main_v198 : Ref sig .tc := ⟨.hbm, 246, rfl⟩
abbrev main_v199 : Ref sig .tc := ⟨.hbm, 247, rfl⟩
abbrev main_c_32 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_cst_33 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_cst_34 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_c_35 : Ref sig .tc := ⟨.hbm, 264, rfl⟩
abbrev main_call3_v0 : Ref sig .tc := ⟨.hbm, 265, rfl⟩
abbrev main_call3_v1 : Ref sig .tc := ⟨.hbm, 266, rfl⟩
abbrev main_v213 : Ref sig .tc := ⟨.hbm, 267, rfl⟩
abbrev main_c_36 : Ref sig .tc := ⟨.hbm, 268, rfl⟩
abbrev main_v214 : Ref sig .tc := ⟨.hbm, 269, rfl⟩
abbrev main_c_37 : Ref sig .tc := ⟨.hbm, 270, rfl⟩
abbrev main_v215 : Ref sig .tc := ⟨.hbm, 271, rfl⟩
abbrev main_v216 : Ref sig .tc := ⟨.hbm, 272, rfl⟩
abbrev main_c_38 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_cst_39 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_cst_40 : Ref sig .tc := ⟨.hbm, 285, rfl⟩
abbrev main_v227 : Ref sig .tc := ⟨.hbm, 286, rfl⟩
abbrev main_v228 : Ref sig .tc := ⟨.hbm, 287, rfl⟩
abbrev main_cst_41 : Ref sig .tc := ⟨.hbm, 288, rfl⟩
abbrev main_v229 : Ref sig .tc := ⟨.hbm, 289, rfl⟩
abbrev main_v230 : Ref sig .tc := ⟨.hbm, 290, rfl⟩
abbrev main_cst_42 : Ref sig .tc := ⟨.hbm, 291, rfl⟩
abbrev main_v231 : Ref sig .tc := ⟨.hbm, 292, rfl⟩
abbrev main_v232 : Ref sig .tc := ⟨.hbm, 293, rfl⟩
abbrev main_v233 : Ref sig .tc := ⟨.hbm, 294, rfl⟩
abbrev main_cst_43 : Ref sig .tc := ⟨.hbm, 295, rfl⟩
abbrev main_v234 : Ref sig .tc := ⟨.hbm, 296, rfl⟩
abbrev main_cst_44 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_cst_45 : Ref sig .tc := ⟨.hbm, 310, rfl⟩
abbrev main_v247 : Ref sig .tc := ⟨.hbm, 311, rfl⟩
abbrev main_v248 : Ref sig .tc := ⟨.hbm, 312, rfl⟩
abbrev main_v249 : Ref sig .tc := ⟨.hbm, 313, rfl⟩
abbrev main_v250 : Ref sig .tc := ⟨.hbm, 314, rfl⟩
abbrev main_v251 : Ref sig .tc := ⟨.hbm, 315, rfl⟩
abbrev main_v252 : Ref sig .tc := ⟨.hbm, 316, rfl⟩
abbrev main_v253 : Ref sig .tc := ⟨.hbm, 317, rfl⟩
abbrev main_v254 : Ref sig .tc := ⟨.hbm, 318, rfl⟩
abbrev main_v255 : Ref sig .tc := ⟨.hbm, 319, rfl⟩
abbrev main_v256 : Ref sig .tc := ⟨.hbm, 320, rfl⟩
abbrev main_v257 : Ref sig .tc := ⟨.hbm, 321, rfl⟩
abbrev main_v258 : Ref sig .tc := ⟨.hbm, 322, rfl⟩
abbrev main_v259 : Ref sig .tc := ⟨.hbm, 323, rfl⟩
abbrev main_cst_46 : Ref sig .tc := ⟨.hbm, 324, rfl⟩
abbrev main_v260 : Ref sig .tc := ⟨.hbm, 325, rfl⟩
abbrev main_v261 : Ref sig .tc := ⟨.hbm, 326, rfl⟩
abbrev main_v262 : Ref sig .tc := ⟨.hbm, 327, rfl⟩
abbrev main_v263 : Ref sig .tc := ⟨.hbm, 328, rfl⟩
abbrev main_v264 : Ref sig .tc := ⟨.hbm, 329, rfl⟩
abbrev main_v265 : Ref sig .tc := ⟨.hbm, 330, rfl⟩
abbrev main_v266 : Ref sig .tc := ⟨.hbm, 331, rfl⟩
abbrev main_v267 : Ref sig .tc := ⟨.hbm, 332, rfl⟩
abbrev main_v268 : Ref sig .tc := ⟨.hbm, 333, rfl⟩
abbrev main_v269 : Ref sig .tc := ⟨.hbm, 334, rfl⟩
abbrev main_v270 : Ref sig .tc := ⟨.hbm, 335, rfl⟩
abbrev main_v271 : Ref sig .tc := ⟨.hbm, 336, rfl⟩
abbrev main_v272 : Ref sig .tc := ⟨.hbm, 337, rfl⟩
abbrev main_v273 : Ref sig .tc := ⟨.hbm, 338, rfl⟩
abbrev main_v274 : Ref sig .tc := ⟨.hbm, 339, rfl⟩
abbrev main_v275 : Ref sig .tc := ⟨.hbm, 340, rfl⟩
abbrev main_v276 : Ref sig .tc := ⟨.hbm, 341, rfl⟩
abbrev main_cst_47 : Ref sig .tc := ⟨.hbm, 342, rfl⟩
abbrev main_v277 : Ref sig .tc := ⟨.hbm, 343, rfl⟩
abbrev main_v278 : Ref sig .tc := ⟨.hbm, 344, rfl⟩
abbrev main_cst_48 : Ref sig .tc := ⟨.hbm, 345, rfl⟩
abbrev main_v279 : Ref sig .tc := ⟨.hbm, 346, rfl⟩
abbrev main_v280 : Ref sig .tc := ⟨.hbm, 347, rfl⟩
abbrev main_cst_49 : Ref sig .tc := ⟨.hbm, 348, rfl⟩
abbrev main_v281 : Ref sig .tc := ⟨.hbm, 349, rfl⟩
abbrev main_v282 : Ref sig .tc := ⟨.hbm, 350, rfl⟩
abbrev main_cst_50 : Ref sig .tc := ⟨.hbm, 351, rfl⟩
abbrev main_v283 : Ref sig .tc := ⟨.hbm, 352, rfl⟩
abbrev main_v284 : Ref sig .tc := ⟨.hbm, 353, rfl⟩
abbrev main_cst_51 : Ref sig .tc := ⟨.hbm, 354, rfl⟩
abbrev main_v285 : Ref sig .tc := ⟨.hbm, 355, rfl⟩
abbrev main_v286 : Ref sig .tc := ⟨.hbm, 356, rfl⟩
abbrev main_v287 : Ref sig .tc := ⟨.hbm, 357, rfl⟩
abbrev main_v288 : Ref sig .tc := ⟨.hbm, 358, rfl⟩
abbrev main_v289 : Ref sig .tc := ⟨.hbm, 359, rfl⟩
abbrev main_cst_52 : Ref sig .tc := ⟨.hbm, 360, rfl⟩
abbrev main_v290 : Ref sig .tc := ⟨.hbm, 361, rfl⟩
abbrev main_cst_53 : Ref sig .tc := ⟨.hbm, 362, rfl⟩
abbrev main_v291 : Ref sig .tc := ⟨.hbm, 363, rfl⟩
abbrev main_c_54 : Ref sig .tc := ⟨.hbm, 364, rfl⟩
abbrev main_v292 : Ref sig .tc := ⟨.hbm, 365, rfl⟩
abbrev main_call6_v0 : Ref sig .tc := ⟨.hbm, 366, rfl⟩
abbrev main_call6_c : Ref sig .tc := ⟨.hbm, 367, rfl⟩
abbrev main_call6_v1 : Ref sig .tc := ⟨.hbm, 368, rfl⟩
abbrev main_call6_v2 : Ref sig .tc := ⟨.hbm, 369, rfl⟩
abbrev main_call6_v3 : Ref sig .tc := ⟨.hbm, 370, rfl⟩
abbrev main_call6_v4 : Ref sig .tc := ⟨.hbm, 371, rfl⟩
abbrev main_call6_c_0 : Ref sig .tc := ⟨.hbm, 372, rfl⟩
abbrev main_call6_v5 : Ref sig .tc := ⟨.hbm, 373, rfl⟩
abbrev main_v293 : Ref sig .tc := ⟨.hbm, 374, rfl⟩
abbrev main_cst_55 : Ref sig .tc := ⟨.hbm, 375, rfl⟩
abbrev main_v294 : Ref sig .tc := ⟨.hbm, 376, rfl⟩
abbrev main_v295 : Ref sig .tc := ⟨.hbm, 377, rfl⟩
abbrev main_cst_56 : Ref sig .tc := ⟨.hbm, 378, rfl⟩
abbrev main_v296 : Ref sig .tc := ⟨.hbm, 379, rfl⟩
abbrev main_v297 : Ref sig .tc := ⟨.hbm, 380, rfl⟩
abbrev main_cst_57 : Ref sig .tc := ⟨.hbm, 381, rfl⟩
abbrev main_v298 : Ref sig .tc := ⟨.hbm, 382, rfl⟩
abbrev main_v299 : Ref sig .tc := ⟨.hbm, 383, rfl⟩
abbrev main_cst_58 : Ref sig .tc := ⟨.hbm, 384, rfl⟩
abbrev main_v300 : Ref sig .tc := ⟨.hbm, 385, rfl⟩
abbrev main_v301 : Ref sig .tc := ⟨.hbm, 386, rfl⟩
abbrev main_cst_59 : Ref sig .tc := ⟨.hbm, 387, rfl⟩
abbrev main_v302 : Ref sig .tc := ⟨.hbm, 388, rfl⟩
abbrev main_v303 : Ref sig .tc := ⟨.hbm, 389, rfl⟩
abbrev main_v304 : Ref sig .tc := ⟨.hbm, 390, rfl⟩
abbrev main_v305 : Ref sig .tc := ⟨.hbm, 391, rfl⟩
abbrev main_v306 : Ref sig .tc := ⟨.hbm, 392, rfl⟩
abbrev main_cst_60 : Ref sig .tc := ⟨.hbm, 393, rfl⟩
abbrev main_call8_v0 : Ref sig .tc := ⟨.hbm, 394, rfl⟩
abbrev main_call8_v1 : Ref sig .tc := ⟨.hbm, 395, rfl⟩
abbrev main_v307 : Ref sig .tc := ⟨.hbm, 396, rfl⟩
abbrev main_cst_61 : Ref sig .tc := ⟨.hbm, 397, rfl⟩
abbrev main_v308 : Ref sig .tc := ⟨.hbm, 398, rfl⟩
abbrev main_cst_62 : Ref sig .tc := ⟨.hbm, 399, rfl⟩
abbrev main_v309 : Ref sig .tc := ⟨.hbm, 400, rfl⟩
abbrev main_cst_63 : Ref sig .tc := ⟨.hbm, 401, rfl⟩
abbrev main_v310 : Ref sig .tc := ⟨.hbm, 402, rfl⟩
abbrev main_v311 : Ref sig .tc := ⟨.hbm, 403, rfl⟩
abbrev main_cst_64 : Ref sig .tc := ⟨.hbm, 404, rfl⟩
abbrev main_v312 : Ref sig .tc := ⟨.hbm, 405, rfl⟩
abbrev main_v313 : Ref sig .tc := ⟨.hbm, 406, rfl⟩
abbrev main_v314 : Ref sig .tc := ⟨.hbm, 407, rfl⟩

abbrev nD : Nat := 1
abbrev τ : Topo := Topo.v7x

variable {F : FTy → Type} [FloatOps F]
-- ==== Proof.Spec.lean ====
/-
  The loss over the real numbers, said once and away from either program: boxes with real entries, their corners, their
  overlap and overlap ratio, and the two ways the programs write a pair's penalty.

  A box is (x centre, y centre, width, height); its corners are (x1, y1, x2, y2). Areas and overlaps count the edge pixel
  (`+ 1`), so a box of sizes at least zero has an area of at least one and no union vanishes.
-/
module

public import Idealize.ShloMosaic.Lib.ValueIdx
public import Idealize.ShloMosaic.Lib.IdealHost
public import Mathlib.Analysis.SpecialFunctions.Log.Basic

@[expose] public section

noncomputable section

namespace Cert.Loss

open Idealize.ShloMosaic
open scoped BigOperators

/-! ## Real boxes -/

/-- Four numbers: a box by its centre and sizes, or by its two corners. -/
abbrev Box := Fin 4 → ℝ

/-- The corners (x1, y1, x2, y2) of a box given by centre and sizes. -/
def cor (b : Box) : Box := ![b 0 - b 2 / 2, b 1 - b 3 / 2, b 0 + b 2 / 2, b 1 + b 3 / 2]

/-- The common part of two boxes given by corners, edge pixels counted. -/
def ovl (c d : Box) : ℝ :=
  max (min (c 2) (d 2) - max (c 0) (d 0) + 1) 0 * max (min (c 3) (d 3) - max (c 1) (d 1) + 1) 0

/-- The area of a box given by corners, edge pixels counted. -/
def area (c : Box) : ℝ := (c 2 - c 0 + 1) * (c 3 - c 1 + 1)

/-- The area two boxes cover together. -/
def union (c d : Box) : ℝ := area c + area d - ovl c d

/-- The overlap ratio of two boxes. -/
def iou (c d : Box) : ℝ := ovl c d / union c d

/-- The corners are in order. -/
def Ordered (c : Box) : Prop := c 0 ≤ c 2 ∧ c 1 ≤ c 3

theorem ordered_cor {b : Box} (h2 : 0 ≤ b 2) (h3 : 0 ≤ b 3) : Ordered (cor b) := by
  constructor <;> simp [cor] <;> linarith

theorem ovl_nonneg (c d : Box) : 0 ≤ ovl c d := mul_nonneg (le_max_right _ _) (le_max_right _ _)

theorem ovl_comm (c d : Box) : ovl c d = ovl d c := by
  unfold ovl; rw [min_comm (c 2), max_comm (c 0), min_comm (c 3), max_comm (c 1)]

theorem one_le_area {c : Box} (h : Ordered c) : 1 ≤ area c := by
  obtain ⟨hx, hy⟩ := h
  unfold area
  nlinarith

theorem ovl_le_area {c : Box} (d : Box) (h : Ordered c) : ovl c d ≤ area c := by
  obtain ⟨hx, hy⟩ := h
  have a1 : max (min (c 2) (d 2) - max (c 0) (d 0) + 1) 0 ≤ c 2 - c 0 + 1 := by
    refine max_le ?_ (by linarith)
    have := min_le_left (c 2) (d 2); have := le_max_left (c 0) (d 0); linarith
  have a2 : max (min (c 3) (d 3) - max (c 1) (d 1) + 1) 0 ≤ c 3 - c 1 + 1 := by
    refine max_le ?_ (by linarith)
    have := min_le_left (c 3) (d 3); have := le_max_left (c 1) (d 1); linarith
  exact mul_le_mul a1 a2 (le_max_right _ _) (by linarith)

/-- The union of two boxes with corners in order is at least one, so it is never zero. -/
theorem one_le_union {c d : Box} (hc : Ordered c) (hd : Ordered d) : 1 ≤ union c d := by
  have := ovl_le_area d hc; have := one_le_area hd; unfold union; linarith

theorem union_pos {c d : Box} (hc : Ordered c) (hd : Ordered d) : 0 < union c d :=
  lt_of_lt_of_le one_pos (one_le_union hc hd)

/-- The logarithm a pair of boxes contributes, with the floor `k` under the part not shared. -/
def plog (k : ℝ) (c d : Box) : ℝ := Real.log (max (1 - iou c d) k)

/-- The kernel's form of a pair's logarithm: a quotient whose denominator is the union. -/
theorem plog_eq_sub {k : ℝ} (hk : 0 < k) {c d : Box} (hc : Ordered c) (hd : Ordered d) :
    Real.log (max (union c d - ovl c d) (k * union c d)) - Real.log (union c d) = plog k c d := by
  have hu := union_pos hc hd
  have hn : 0 < max (union c d - ovl c d) (k * union c d) := lt_max_of_lt_right (mul_pos hk hu)
  rw [← Real.log_div hn.ne' hu.ne']
  unfold plog iou
  congr 1
  rw [← max_div_div_right hu.le, sub_div, div_self hu.ne', mul_div_assoc, div_self hu.ne', mul_one]

/-! ## Real numbers among the extended ones -/

theorem coe_max (x y : ℝ) : ((max x y : ℝ) : EReal) = max (x : EReal) (y : EReal) :=
  EReal.coe_strictMono.monotone.map_max

theorem coe_min (x y : ℝ) : ((min x y : ℝ) : EReal) = min (x : EReal) (y : EReal) :=
  EReal.coe_strictMono.monotone.map_min

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logarithm of a positive real. -/
theorem log_coe {x : ℝ} (h : 0 < x) : Ideal.log (x : EReal) = ((Real.log x : ℝ) : EReal) := by
  show (if x ≤ 0 then (⊥ : EReal) else ((Real.log x : ℝ) : EReal)) = _
  rw [if_neg (not_le.mpr h)]

/-- A quotient of reals with a denominator other than zero. -/
theorem div_coe {x y : ℝ} (h : y ≠ 0) : Ideal.div (x : EReal) (y : EReal) = ((x / y : ℝ) : EReal) := by
  rw [Ideal.div_coe h, ← EReal.coe_mul, mul_one_div]

/-! ## The programs' number words -/

/-- One half. -/
theorem half_f32 : Ideal.ofBits .f32 0x3F000000#32 = ((1 / 2 : ℝ) : EReal) := by
  simp [Ideal.ofBits, Ideal.ieee, -EReal.coe_mul]; norm_num

/-- One. -/
theorem one_f32 : Ideal.ofBits .f32 0x3F800000#32 = ((1 : ℝ) : EReal) := by
  simp [Ideal.ofBits, Ideal.ieee, -EReal.coe_mul]; norm_num

/-- Two. -/
theorem two_f32 : Ideal.ofBits .f32 0x40000000#32 = ((2 : ℝ) : EReal) := by
  simp [Ideal.ofBits, Ideal.ieee, -EReal.coe_mul]; norm_num

/-- The floor under the pair penalty, the bf16 number next to three tenths. -/
def flo : ℝ := 77 / 256

theorem flo_pos : 0 < flo := by norm_num [flo]

theorem flo_bf16 : Ideal.ofBits .bf16 0x3E9A#16 = ((flo : ℝ) : EReal) := by
  simp [Ideal.ofBits, Ideal.ieee, flo, -EReal.coe_mul]; norm_num

theorem flo_f32 : Ideal.ofBits .f32 0x3E9A0000#32 = ((flo : ℝ) : EReal) := by
  simp [Ideal.ofBits, Ideal.ieee, flo, -EReal.coe_mul]; norm_num

/-- The small number the overlap ratio is clipped to. -/
def eps : ℝ := 14073749 / 2 ^ 47

theorem eps_pos : 0 < eps := by norm_num [eps]
theorem eps_lt_one : eps < 1 := by norm_num [eps]

theorem eps_f32 : Ideal.ofBits .f32 0x33D6BF95#32 = ((eps : ℝ) : EReal) := by
  simp [Ideal.ofBits, Ideal.ieee, eps, -EReal.coe_mul]; norm_num

/-- The divisor of the linear part of the penalty. -/
def rden : ℝ := 10008844 / 2 ^ 23

theorem rden_f32 : Ideal.ofBits .f32 0x3F98B90C#32 = ((rden : ℝ) : EReal) := by
  simp [Ideal.ofBits, Ideal.ieee, rden, -EReal.coe_mul]; norm_num

end Cert.Loss
end
end
-- ==== Proof.Boxes.lean ====
/-
  What the precondition says: every entry of either array is a real number, and the sizes (columns 2 and 3) are at least zero.
-/
module

public import proofs.«01_k».proof.Pre_boxes
public import proofs.«01_k».proof.Proof.Spec
public import Idealize.ShloMosaic.Lib.ReduceAll
public import Idealize.ShloMosaic.Lib.ValueIdxRank1

@[expose] public section

set_option maxRecDepth 16384

noncomputable section

namespace Cert.Loss.Boxes

open Idealize.ShloMosaic Idealize.ShloMosaic.ValueIdx Cert.Pre_boxes

/-- The side conditions of the precondition's operations. -/
theorem facts : Cert.Pre_boxes.Facts := by
  constructor <;> first | decide | exact by decide +kernel

instance : Cert.Pre_boxes.Facts := facts

instance : Subsingleton S_.Idx := ⟨fun a b => funext fun k => k.elim0⟩

/-- The word of plus infinity. -/
theorem top_f32 : Ideal.ofBits .f32 0x7F800000#32 = ⊤ := by simp [Ideal.ofBits, Ideal.ieee]

/-- An entry whose absolute value is below plus infinity is real. -/
theorem real_of_abs {x : EReal} (h : max x (-x) < ⊤) : ((x.toReal : ℝ) : EReal) = x := by
  refine EReal.coe_toReal (fun e => ?_) (fun e => ?_)
  · subst e; simp at h
  · subst e; simp at h

/-- The bit that says an entry is finite. -/
theorem finite_bit (x : EReal) : BitVec.ofBool (decide (max x (-x) < Ideal.ofBits .f32 0x7F800000#32)) = 1#1 ↔ max x (-x) < ⊤ := by
  rw [top_f32]
  by_cases h : max x (-x) < ⊤ <;> simp [h]

/-- The bit that says an entry is at least zero. -/
theorem nonneg_bit (x : EReal) : BitVec.ofBool (decide (Ideal.ofBits .f32 0x00000000#32 ≤ x)) = 1#1 ↔ 0 ≤ x := by
  rw [Ideal.ofBits_zero_f32]
  by_cases h : 0 ≤ x <;> simp [h]

/-- "And" over a whole table is one exactly when every entry is one. -/
theorem all_iff {n k : ℕ} (b : IVec ⟨2, ![n, k]⟩ 1) (h : (⟨2, ![n, k]⟩ : Shape).ReducesTo [0, 1] S_) (hu : 0 < S_.numel) :
    Host.reduce IntOp.andi b (constantI S_ 1 1#1) h hu ix0 = 1#1 ↔ ∀ p j, b (ix2 p j) = 1#1 :=
  ⟨fun e p j => Host.reduce_andi_all _ _ _ _ _ e (ix2 p j),
    fun e => Host.reduce_andi_one _ _ _ _ _ rfl fun i => by rw [eq_ix2 i]; exact e (i 0) (i 1)⟩

/-- Columns 2 and 3 of a four-column table. -/
theorem sizes_at {n : ℕ} (x : FVec Ideal ⟨2, ![n, 4]⟩ .f32) (h : (⟨2, ![n, 4]⟩ : Shape).Slices ![0, 2] ⟨2, ![n, 2]⟩)
    (p : Fin n) (j : Fin 2) : extractStridedSlice ⟨2, ![n, 2]⟩ ![0, 2] x h (ix2 p j) = x (ix2 p (![2, 3] j)) :=
  congrArg x (funext fun a => Fin.ext (by fin_cases a <;> fin_cases j <;> simp [ix2]))

/-- What the precondition asks of one array: entries finite, sizes at least zero. -/
def Good {n : ℕ} (x : FVec Ideal ⟨2, ![n, 4]⟩ .f32) : Prop :=
  (∀ p k, max (x (ix2 p k)) (-x (ix2 p k)) < ⊤) ∧ ∀ p, 0 ≤ x (ix2 p 2) ∧ 0 ≤ x (ix2 p 3)

/-- The two bits computed of one array say that it is good. -/
theorem good_iff {n : ℕ} (x : FVec Ideal ⟨2, ![n, 4]⟩ .f32) (b4 : S_.BroadcastsInDim ⟨2, ![n, 4]⟩ (![] : Fin 0 → Fin 2))
    (b2 : S_.BroadcastsInDim ⟨2, ![n, 2]⟩ (![] : Fin 0 → Fin 2)) (r4 : (⟨2, ![n, 4]⟩ : Shape).ReducesTo [0, 1] S_)
    (r2 : (⟨2, ![n, 2]⟩ : Shape).ReducesTo [0, 1] S_) (hs : (⟨2, ![n, 4]⟩ : Shape).Slices ![0, 2] ⟨2, ![n, 2]⟩) (hu : 0 < S_.numel) :
    andi (Host.reduce IntOp.andi (cmpf .olt (Host.absf x) (broadcastInDim ⟨2, ![n, 4]⟩ ![] b4 (constant (F := Ideal) S_ .f32 0x7F800000#32)))
        (constantI S_ 1 1#1) r4 hu)
      (Host.reduce IntOp.andi (cmpf .oge (extractStridedSlice ⟨2, ![n, 2]⟩ ![0, 2] x hs)
        (broadcastInDim ⟨2, ![n, 2]⟩ ![] b2 (constant (F := Ideal) S_ .f32 0x00000000#32))) (constantI S_ 1 1#1) r2 hu) ix0 = 1#1 ↔ Good x := by
  refine IntOp.andi_eq_one.trans (and_congr ?_ ?_)
  · exact (all_iff _ r4 hu).trans (forall_congr' fun p => forall_congr' fun k => finite_bit _)
  · refine (all_iff _ r2 hu).trans (forall_congr' fun p => ?_)
    refine (forall_congr' fun j => (nonneg_bit _).trans (iff_of_eq (congrArg (0 ≤ ·) (sizes_at x hs p j)))).trans ?_
    exact Fin.forall_fin_two

/-- The precondition, array by array. -/
theorem pre_iff (x0 : FVec Ideal S512x4 .f32) (x1 : FVec Ideal S2048x4 .f32) :
    (Cert.Pre_boxes.fn (F := Ideal) x0 x1 = fun _ => 1#1) ↔ Good x0 ∧ Good x1 := by
  have whole (f : IVec S_ 1) : (f = fun _ => 1#1) ↔ f ix0 = 1#1 :=
    ⟨fun h => congrFun h _, fun h => funext fun i => (congrArg f (Subsingleton.elim _ _)).trans h⟩
  rw [whole]
  unfold Cert.Pre_boxes.fn fn_part1
  exact IntOp.andi_eq_one.trans (and_congr (good_iff x0 _ _ _ _ _ _) (good_iff x1 _ _ _ _ _ _))

/-- The boxes of an array. -/
def boxesOf {n : ℕ} (x : FVec Ideal ⟨2, ![n, 4]⟩ .f32) : Fin n → Box := fun p k => (x (ix2 p k)).toReal

/-- A good array holds its boxes' real numbers, -/
theorem Good.entry {n : ℕ} {x : FVec Ideal ⟨2, ![n, 4]⟩ .f32} (h : Good x) (p : Fin n) (k : Fin 4) :
    x (ix2 p k) = ((boxesOf x p k : ℝ) : EReal) := (real_of_abs (h.1 p k)).symm

/-- and their corners are in order. -/
theorem Good.ordered {n : ℕ} {x : FVec Ideal ⟨2, ![n, 4]⟩ .f32} (h : Good x) (p : Fin n) : Ordered (cor (boxesOf x p)) :=
  ordered_cor (EReal.toReal_nonneg (h.2 p).1) (EReal.toReal_nonneg (h.2 p).2)

end Cert.Loss.Boxes
end
end
-- ==== Proof.Halving.lean ====
/-
  The kernel's cheap sum of logarithms: an array of 512 rows is folded three times, each time multiplying its upper half
  into its lower half, and only then are logarithms taken and summed. On positive reals this is the sum of all the
  logarithms.
-/
module

public import proofs.«01_k».proof.Proof.Spec
public import proofs.«01_k».proof.Proof.Gen.KernelIdeal.Skeleton
public import Idealize.ShloMosaic.Lib.ValueLayout
public import Idealize.ShloMosaic.Lib.Pipeline.Value

@[expose] public section

set_option maxRecDepth 16384

noncomputable section

namespace Cert.Loss

open Idealize.ShloMosaic Idealize.ShloMosaic.ValueIdx Cert.KernelIdeal Cert.KernelIdeal.Gen
open scoped BigOperators

/-- One fold of an array of `n + n` rows, read at an entry: the product of row `r` and row `n + r`. -/
theorem fold_apply {n N m : ℕ} {X : FVec Ideal ⟨2, ![N, m]⟩ .bf16} {x : Fin N → Fin m → ℝ}
    (hX : ∀ r l, X (ix2 r l) = ((x r l : ℝ) : EReal)) (hN : N = n + n)
    (h0 : (⟨2, ![N, m]⟩ : Shape).Slices ![0, 0] ⟨2, ![n, m]⟩) (h1 : (⟨2, ![N, m]⟩ : Shape).Slices ![n, 0] ⟨2, ![n, m]⟩)
    (r : Fin n) (l : Fin m) :
    mulf (F := Ideal) (φ := .bf16) (extractStridedSlice ⟨2, ![n, m]⟩ ![0, 0] X h0) (extractStridedSlice ⟨2, ![n, m]⟩ ![n, 0] X h1) (ix2 r l)
      = ((x ⟨r.val, by omega⟩ l * x ⟨n + r.val, by omega⟩ l : ℝ) : EReal) := by
  rw [mulf_apply, slice2_axis0_apply 0 X h0 r l ⟨r.val, by omega⟩ (by simp), slice2_axis0_apply n X h1 r l ⟨n + r.val, by omega⟩ rfl,
    hX, hX, EReal.coe_mul]

/-- The logarithms of one fold sum to the logarithms of all the rows. -/
theorem sum_log_fold {n N m : ℕ} (hN : N = n + n) (x : Fin N → Fin m → ℝ) (hx : ∀ r l, 0 < x r l) :
    ∑ r : Fin n, ∑ l, Real.log (x ⟨r.val, by omega⟩ l * x ⟨n + r.val, by omega⟩ l) = ∑ r, ∑ l, Real.log (x r l) := by
  subst hN
  rw [Fin.sum_univ_add, ← Finset.sum_add_distrib]
  refine Finset.sum_congr rfl fun r _ => ?_
  rw [← Finset.sum_add_distrib]
  exact Finset.sum_congr rfl fun l _ => Real.log_mul (hx _ _).ne' (hx _ _).ne'

/-- The sum of an array of 64 rows, as the kernel takes it. -/
def mass (Y : FVec Ideal S64x512 .f32) : EReal :=
  extractAt ![0, 0, 0] (shapeCast S1x1x1 (multiReduction .add [1, 2] S1 (shapeCast S1x64x512 Y shapeCasts_S64x512_S1x64x512)
    0x00000000#32 reduces_S1x64x512_S1 (.inl rfl) rfl) shapeCasts_S1_S1x1x1) inpos_S1x1x1_p0_0_0

theorem mass_eq (Y : FVec Ideal S64x512 .f32) : mass Y = ∑ r : Fin 64, ∑ l : Fin 512, Y (ix2 r l) := by
  refine (Ideal.multiReduction_add_total (φ := .f32) (shapeCast S1x64x512 Y shapeCasts_S64x512_S1x64x512) 0x00000000#32
    reduces_S1x64x512_S1 (by decide) (.inl rfl) rfl _).trans ?_
  exact (Equiv.sum_comp (Shape.reshapeEquiv shapeCasts_S64x512_S1x64x512) Y).trans (sum_idx2 Y)

/-- Three folds of an array of 512 rows. -/
def eight (X : FVec Ideal S512x512 .bf16) : FVec Ideal S64x512 .bf16 :=
  have a : FVec Ideal S256x512 .bf16 := mulf (extractStridedSlice S256x512 ![0, 0] X slices_S512x512_o0_0_S256x512)
    (extractStridedSlice S256x512 ![256, 0] X slices_S512x512_o256_0_S256x512)
  have b : FVec Ideal S128x512 .bf16 := mulf (extractStridedSlice S128x512 ![0, 0] a slices_S256x512_o0_0_S128x512)
    (extractStridedSlice S128x512 ![128, 0] a slices_S256x512_o128_0_S128x512)
  mulf (extractStridedSlice S64x512 ![0, 0] b slices_S128x512_o0_0_S64x512)
    (extractStridedSlice S64x512 ![64, 0] b slices_S128x512_o64_0_S64x512)

/-- The kernel's folded sum of logarithms is the sum of the logarithms of all the entries, when they are positive. -/
theorem mass_log_eight (X : FVec Ideal S512x512 .bf16) (x : Fin 512 → Fin 512 → ℝ)
    (hX : ∀ r l, X (ix2 r l) = ((x r l : ℝ) : EReal)) (hx : ∀ r l, 0 < x r l) :
    mass (log (extf .f32 (eight X) bitsLt_bf16_f32)) = ((∑ r, ∑ l, Real.log (x r l) : ℝ) : EReal) := by
  rw [mass_eq]
  have ha := fold_apply (n := 256) hX rfl slices_S512x512_o0_0_S256x512 slices_S512x512_o256_0_S256x512
  have hb := fold_apply (n := 128) (N := 256) ha rfl slices_S256x512_o0_0_S128x512 slices_S256x512_o128_0_S128x512
  have hc := fold_apply (n := 64) (N := 128) hb rfl slices_S128x512_o0_0_S64x512 slices_S128x512_o64_0_S64x512
  rw [← sum_log_fold (n := 256) rfl x hx,
    ← sum_log_fold (n := 128) (N := 256) rfl (fun r l => x ⟨r.val, by omega⟩ l * x ⟨256 + r.val, by omega⟩ l)
      (fun r l => mul_pos (hx _ _) (hx _ _)),
    ← sum_log_fold (n := 64) (N := 128) rfl
      (fun r l => (fun (r : Fin 256) l => x ⟨r.val, by omega⟩ l * x ⟨256 + r.val, by omega⟩ l) ⟨r.val, by omega⟩ l
        * (fun (r : Fin 256) l => x ⟨r.val, by omega⟩ l * x ⟨256 + r.val, by omega⟩ l) ⟨128 + r.val, by omega⟩ l)
      (fun r l => mul_pos (mul_pos (hx _ _) (hx _ _)) (mul_pos (hx _ _) (hx _ _))), coe_sum]
  refine Finset.sum_congr rfl fun r _ => ?_
  rw [coe_sum]
  refine Finset.sum_congr rfl fun l _ => ?_
  refine Eq.trans (congrArg Ideal.log (hc r l)) (log_coe ?_)
  exact mul_pos (mul_pos (mul_pos (hx _ _) (hx _ _)) (mul_pos (hx _ _) (hx _ _)))
    (mul_pos (mul_pos (hx _ _) (hx _ _)) (mul_pos (hx _ _) (hx _ _)))

end Cert.Loss
end
end
-- ==== Proof.FirstMax.lean ====
/-
  The first row at which a column of 512 numbers is largest, and the way both programs find it: the column's maximum, then
  the least row number whose entry equals it, rows that do not attain it counting as 512.
-/
module

public import proofs.«01_k».proof.Proof.Spec
public import Idealize.ShloMosaic.PureOps.Reduce

@[expose] public section

noncomputable section

namespace Cert.Loss

open Idealize.ShloMosaic Idealize.ShloMosaic.ValueIdx
open scoped BigOperators

/-- The rows attaining the column's maximum. -/
def tops (f : Fin 512 → EReal) : Finset (Fin 512) := by
  classical exact Finset.univ.filter fun r => ∀ s, f s ≤ f r

theorem mem_tops {f : Fin 512 → EReal} {r : Fin 512} : r ∈ tops f ↔ ∀ s, f s ≤ f r := by
  classical
  unfold tops
  rw [Finset.mem_filter]
  exact ⟨And.right, fun h => ⟨Finset.mem_univ _, h⟩⟩

theorem tops_nonempty (f : Fin 512 → EReal) : (tops f).Nonempty := by
  obtain ⟨r, hr⟩ := Finite.exists_max f
  exact ⟨r, mem_tops.mpr hr⟩

/-- The first row attaining the column's maximum. -/
def firstMax (f : Fin 512 → EReal) : Fin 512 := (tops f).min' (tops_nonempty f)

theorem le_firstMax (f : Fin 512 → EReal) (s : Fin 512) : f s ≤ f (firstMax f) :=
  mem_tops.mp ((tops f).min'_mem (tops_nonempty f)) s

theorem firstMax_le {f : Fin 512 → EReal} {r : Fin 512} (h : ∀ s, f s ≤ f r) : firstMax f ≤ r :=
  (tops f).min'_le r (mem_tops.mpr h)

/-- The programs' fold of the column's maximum is the entry at the first maximum. -/
theorem fold_max_eq (f : Fin 512 → EReal) : Finset.univ.fold max ⊥ f = f (firstMax f) := by
  refine le_antisymm ?_ ?_
  · rw [Finset.fold_max_le]; exact ⟨bot_le, fun s _ => le_firstMax f s⟩
  · rw [Finset.le_fold_max]; exact Or.inr ⟨_, Finset.mem_univ _, le_rfl⟩

/-- The programs' word for the first maximum. -/
def maxWord (f : Fin 512 → EReal) : BitVec 32 :=
  Finset.univ.fold IntOp.minsi 2147483647#32
    (fun r : Fin 512 => Scalar.select (Ideal.cmp .oeq (f r) (Finset.univ.fold max ⊥ f)) (BitVec.ofNat 32 r.val) 512#32)

/-- A small number's word, read as a signed integer, is the number. -/
theorem toInt_small {n : ℕ} (h : n < 2 ^ 31) : (BitVec.ofNat 32 n).toInt = n := by
  have hn : (BitVec.ofNat 32 n).toNat = n := by
    rw [BitVec.toNat_ofNat]; exact Nat.mod_eq_of_lt (by omega)
  rw [BitVec.toInt_eq_toNat_of_lt (by rw [hn]; omega), hn]

theorem toInt_minsi (x y : BitVec 32) : (IntOp.minsi x y).toInt = min x.toInt y.toInt := by
  unfold IntOp.minsi
  rw [BitVec.slt_eq_decide]
  by_cases h : x.toInt < y.toInt
  · simp only [decide_eq_true h, if_true]; exact (min_eq_left h.le).symm
  · simp only [decide_eq_false h, Bool.false_eq_true, if_false]; exact (min_eq_right (not_lt.mp h)).symm

/-- It is the number of the first row attaining the maximum. -/
theorem maxWord_eq (f : Fin 512 → EReal) : maxWord f = BitVec.ofNat 32 (firstMax f).val := by
  rw [← BitVec.toInt_inj, toInt_small (by have := (firstMax f).isLt; omega)]
  unfold maxWord
  rw [← Finset.fold_hom (op' := min) toInt_minsi]
  have ht : ∀ r : Fin 512, (Scalar.select (Ideal.cmp .oeq (f r) (Finset.univ.fold max ⊥ f)) (BitVec.ofNat 32 r.val) 512#32).toInt
      = if f r = f (firstMax f) then (r.val : ℤ) else 512 := by
    intro r
    rw [fold_max_eq]
    by_cases h : f r = f (firstMax f)
    · rw [if_pos h, ← toInt_small (n := r.val) (by have := r.isLt; omega)]
      refine congrArg BitVec.toInt ?_
      show Scalar.select (BitVec.ofBool (decide (f r = f (firstMax f)))) _ _ = _
      rw [decide_eq_true h]; rfl
    · rw [if_neg h]
      show (Scalar.select (BitVec.ofBool (decide (f r = f (firstMax f)))) (BitVec.ofNat 32 r.val) 512#32 : BitVec 32).toInt = _
      rw [decide_eq_false h]; rfl
  simp only [ht]
  refine le_antisymm ?_ ?_
  · rw [Finset.fold_min_le]
    exact Or.inr ⟨firstMax f, Finset.mem_univ _, by rw [if_pos rfl]⟩
  · rw [Finset.le_fold_min]
    refine ⟨?_, fun r _ => ?_⟩
    · have := (firstMax f).isLt
      show _ ≤ (2147483647 : ℤ)
      omega
    · by_cases h : f r = f (firstMax f)
      · rw [if_pos h]
        have : firstMax f ≤ r := firstMax_le fun s => by rw [h]; exact le_firstMax f s
        exact_mod_cast this
      · rw [if_neg h]; have := (firstMax f).isLt; omega

/-- Two row numbers below 512 have the same word only when they are the same. -/
theorem word_inj {r s : Fin 512} : BitVec.ofNat 32 r.val = BitVec.ofNat 32 s.val ↔ r = s := by
  refine ⟨fun h => ?_, fun h => by rw [h]⟩
  have := congrArg BitVec.toInt h
  rw [toInt_small (by have := r.isLt; omega), toInt_small (by have := s.isLt; omega)] at this
  exact Fin.ext (by exact_mod_cast this)

/-- The column with its first maximum set to zero. -/
def dropMax (f : Fin 512 → EReal) (r : Fin 512) : EReal := if r = firstMax f then 0 else f r

/-- The first row attaining the maximum once the first maximum is set to zero. -/
def secondMax (f : Fin 512 → EReal) : Fin 512 := firstMax (dropMax f)

end Cert.Loss
end
end
-- ==== Proof.Blocks.lean ====
/-
  One block of the kernel's pair term: 512 boxes down the rows against 512 boxes along the columns. Over the reals the
  words the kernel computes from the two sets of boxes are corners, areas and overlaps, and the block's number is the sum
  of the pairs' logarithms — over all pairs away from the diagonal, over the pairs `column < row` on it.
-/
module

public import proofs.«01_k».proof.Proof.Halving
public import proofs.«01_k».proof.Proof.FirstMax

@[expose] public section

set_option maxRecDepth 16384

noncomputable section

namespace Cert.Loss

open Idealize.ShloMosaic Idealize.ShloMosaic.ValueIdx Cert.KernelIdeal Cert.KernelIdeal.Gen
open scoped BigOperators

/-! ## Reading the layout operations -/

/-- A column broadcast along the columns. -/
theorem bcol_apply {a b : ℕ} {α : Type} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A cast to the same shape changes nothing. -/
theorem cast_self {s : Shape} {α : Type} (x : s.Idx → α) (h : s.ShapeCasts s) : shapeCast s x h = x :=
  funext fun j => shapeCast_apply x h j j rfl

/-! ## A pair of arrays summed as logarithms -/

/-- A block's number: the folded logarithms of the numerators less those of the denominators. -/
def quot (num den : FVec Ideal S512x512 .bf16) : EReal :=
  mass (log (extf .f32 (eight num) bitsLt_bf16_f32)) - mass (log (extf .f32 (eight den) bitsLt_bf16_f32))

theorem quot_eq (num den : FVec Ideal S512x512 .bf16) (n d : Fin 512 → Fin 512 → ℝ)
    (hn : ∀ r l, num (ix2 r l) = ((n r l : ℝ) : EReal)) (hd : ∀ r l, den (ix2 r l) = ((d r l : ℝ) : EReal))
    (pn : ∀ r l, 0 < n r l) (pd : ∀ r l, 0 < d r l) :
    quot num den = ((∑ r, ∑ l, (Real.log (n r l) - Real.log (d r l)) : ℝ) : EReal) := by
  unfold quot
  rw [mass_log_eight num n hn pn, mass_log_eight den d hd pd, ← EReal.coe_sub]
  simp only [Finset.sum_sub_distrib]

/-- The denominators, and the numerators under the floor, of a block whose shared parts are `b`. -/
theorem quot_block (num den b : FVec Ideal S512x512 .bf16) (bb a : Fin 512 → Fin 512 → ℝ)
    (hb : ∀ r l, b (ix2 r l) = ((bb r l : ℝ) : EReal))
    (hd : ∀ r l, den (ix2 r l) = ((a r l : ℝ) : EReal) - b (ix2 r l))
    (hn : ∀ r l, num (ix2 r l) = max (den (ix2 r l) - b (ix2 r l)) (Ideal.ofBits .bf16 0x3E9A#16 * den (ix2 r l)))
    (pos : ∀ r l, 0 < a r l - bb r l) :
    quot num den = ((∑ r, ∑ l, (Real.log (max (a r l - bb r l - bb r l) (flo * (a r l - bb r l))) - Real.log (a r l - bb r l)) : ℝ) : EReal) := by
  have hd' : ∀ r l, den (ix2 r l) = ((a r l - bb r l : ℝ) : EReal) := fun r l => by rw [hd, hb, ← EReal.coe_sub]
  refine quot_eq num den _ _ (fun r l => ?_) hd' (fun r l => lt_max_of_lt_right (mul_pos flo_pos (pos r l))) pos
  rw [hn, hd', hb, flo_bf16, ← EReal.coe_sub, ← EReal.coe_mul, ← coe_max]

/-! ## The row boxes' words -/

section Row
variable (x y w h : FVec Ideal S512x1 .f32) (R : Fin 512 → Box)

/-- The four loaded columns hold these boxes. -/
def RowIs : Prop := ∀ r, x (ix2 r 0) = ((R r 0 : ℝ) : EReal) ∧ y (ix2 r 0) = ((R r 1 : ℝ) : EReal)
  ∧ w (ix2 r 0) = ((R r 2 : ℝ) : EReal) ∧ h (ix2 r 0) = ((R r 3 : ℝ) : EReal)

variable {x y w h R} (H : RowIs x y w h R)
include H

theorem row_x1 (r : Fin 512) : k0_pay57 (F := Ideal) x w (ix2 r 0) = ((cor (R r) 0 : ℝ) : EReal) := by
  obtain ⟨hx, hy, hw, hh⟩ := H r
  show x (ix2 r 0) - w (ix2 r 0) * Ideal.ofBits .f32 0x3F000000#32 = _
  rw [hx, hw, half_f32, ← EReal.coe_mul, ← EReal.coe_sub]; simp only [cor, Matrix.cons_val]; ring_nf

theorem row_y1 (r : Fin 512) : k0_pay58 (F := Ideal) y h (ix2 r 0) = ((cor (R r) 1 : ℝ) : EReal) := by
  obtain ⟨hx, hy, hw, hh⟩ := H r
  show y (ix2 r 0) - h (ix2 r 0) * Ideal.ofBits .f32 0x3F000000#32 = _
  rw [hy, hh, half_f32, ← EReal.coe_mul, ← EReal.coe_sub]; simp only [cor, Matrix.cons_val]; ring_nf

theorem row_x2 (r : Fin 512) : k0_pay59 (F := Ideal) x w (ix2 r 0) = ((cor (R r) 2 : ℝ) : EReal) := by
  obtain ⟨hx, hy, hw, hh⟩ := H r
  show x (ix2 r 0) + w (ix2 r 0) * Ideal.ofBits .f32 0x3F000000#32 = _
  rw [hx, hw, half_f32, ← EReal.coe_mul, ← EReal.coe_add]; simp only [cor, Matrix.cons_val]; ring_nf

theorem row_y2 (r : Fin 512) : k0_pay60 (F := Ideal) y h (ix2 r 0) = ((cor (R r) 3 : ℝ) : EReal) := by
  obtain ⟨hx, hy, hw, hh⟩ := H r
  show y (ix2 r 0) + h (ix2 r 0) * Ideal.ofBits .f32 0x3F000000#32 = _
  rw [hy, hh, half_f32, ← EReal.coe_mul, ← EReal.coe_add]; simp only [cor, Matrix.cons_val]; ring_nf

theorem row_area (r : Fin 512) : k0_pay61 (F := Ideal) x y w h (ix2 r 0) = ((area (cor (R r)) : ℝ) : EReal) := by
  show (k0_pay59 (F := Ideal) x w (ix2 r 0) - k0_pay57 (F := Ideal) x w (ix2 r 0) + Ideal.ofBits .f32 0x3F800000#32)
    * (k0_pay60 (F := Ideal) y h (ix2 r 0) - k0_pay58 (F := Ideal) y h (ix2 r 0) + Ideal.ofBits .f32 0x3F800000#32) = _
  rw [row_x1 H, row_x2 H, row_y1 H, row_y2 H, one_f32]
  simp only [← EReal.coe_sub, ← EReal.coe_add, ← EReal.coe_mul]; rfl

theorem bx1 (r l : Fin 512) : k0_pay62 (F := Ideal) x w (ix2 r l) = ((cor (R r) 0 : ℝ) : EReal) := by
  unfold k0_pay62
  refine (bcol_apply _ broadcasts_S512x1_S512x512 r l).trans ?_
  rw [cast_self]; exact row_x1 H r

theorem by1 (r l : Fin 512) : k0_pay63 (F := Ideal) y h (ix2 r l) = ((cor (R r) 1 : ℝ) : EReal) := by
  unfold k0_pay63
  refine (bcol_apply _ broadcasts_S512x1_S512x512 r l).trans ?_
  rw [cast_self]; exact row_y1 H r

theorem bx2 (r l : Fin 512) : k0_pay65 (F := Ideal) (k0_pay59 (F := Ideal) x w) (k0_pay64 (F := Ideal)) (ix2 r l) = ((cor (R r) 2 + 1 : ℝ) : EReal) := by
  unfold k0_pay65
  refine (bcol_apply _ broadcasts_S512x1_S512x512 r l).trans ?_
  rw [cast_self, EReal.coe_add, ← row_x2 H r, ← one_f32]; rfl

theorem by2 (r l : Fin 512) : k0_pay66 (F := Ideal) (k0_pay60 (F := Ideal) y h) (ix2 r l) = ((cor (R r) 3 + 1 : ℝ) : EReal) := by
  unfold k0_pay66
  refine (bcol_apply _ broadcasts_S512x1_S512x512 r l).trans ?_
  rw [cast_self, EReal.coe_add, ← row_y2 H r, ← one_f32]; rfl

theorem barea (r l : Fin 512) : k0_pay67 (F := Ideal) (k0_pay61 (F := Ideal) x y w h) (ix2 r l) = ((area (cor (R r)) : ℝ) : EReal) := by
  unfold k0_pay67
  refine (bcol_apply _ broadcasts_S512x1_S512x512 r l).trans ?_
  rw [cast_self]; exact row_area H r

end Row

/-! ## The column boxes' words -/

/-- Four rows hold the boxes `L`. -/
def LaneIs {n : ℕ} (x y w h : FVec Ideal ⟨2, ![1, n]⟩ .f32) (L : Fin n → Box) : Prop := ∀ l, x (ix2 0 l) = ((L l 0 : ℝ) : EReal) ∧ y (ix2 0 l) = ((L l 1 : ℝ) : EReal)
  ∧ w (ix2 0 l) = ((L l 2 : ℝ) : EReal) ∧ h (ix2 0 l) = ((L l 3 : ℝ) : EReal)

section Lane
variable {x y w h : FVec Ideal S1x512 .f32} {L : Fin 512 → Box} (H : LaneIs x y w h L)
include H

theorem lane_x1 (l : Fin 512) : k0_pay35 (F := Ideal) x w (ix2 0 l) = ((cor (L l) 0 : ℝ) : EReal) := by
  obtain ⟨hx, hy, hw, hh⟩ := H l
  show k0_pay31 (F := Ideal) x (ix2 0 l) - k0_pay33 (F := Ideal) w (ix2 0 l) * Ideal.ofBits .f32 0x3F000000#32 = _
  unfold k0_pay31 k0_pay33
  rw [cast_self, cast_self, hx, hw, half_f32, ← EReal.coe_mul, ← EReal.coe_sub]; simp only [cor, Matrix.cons_val]; ring_nf

theorem lane_y1 (l : Fin 512) : k0_pay36 (F := Ideal) y h (ix2 0 l) = ((cor (L l) 1 : ℝ) : EReal) := by
  obtain ⟨hx, hy, hw, hh⟩ := H l
  show k0_pay32 (F := Ideal) y (ix2 0 l) - k0_pay34 (F := Ideal) h (ix2 0 l) * Ideal.ofBits .f32 0x3F000000#32 = _
  unfold k0_pay32 k0_pay34
  rw [cast_self, cast_self, hy, hh, half_f32, ← EReal.coe_mul, ← EReal.coe_sub]; simp only [cor, Matrix.cons_val]; ring_nf

theorem lane_x2 (l : Fin 512) : k0_pay37 (F := Ideal) x w (ix2 0 l) = ((cor (L l) 2 : ℝ) : EReal) := by
  obtain ⟨hx, hy, hw, hh⟩ := H l
  show k0_pay31 (F := Ideal) x (ix2 0 l) + k0_pay33 (F := Ideal) w (ix2 0 l) * Ideal.ofBits .f32 0x3F000000#32 = _
  unfold k0_pay31 k0_pay33
  rw [cast_self, cast_self, hx, hw, half_f32, ← EReal.coe_mul, ← EReal.coe_add]; simp only [cor, Matrix.cons_val]; ring_nf

theorem lane_y2 (l : Fin 512) : k0_pay38 (F := Ideal) y h (ix2 0 l) = ((cor (L l) 3 : ℝ) : EReal) := by
  obtain ⟨hx, hy, hw, hh⟩ := H l
  show k0_pay32 (F := Ideal) y (ix2 0 l) + k0_pay34 (F := Ideal) h (ix2 0 l) * Ideal.ofBits .f32 0x3F000000#32 = _
  unfold k0_pay32 k0_pay34
  rw [cast_self, cast_self, hy, hh, half_f32, ← EReal.coe_mul, ← EReal.coe_add]; simp only [cor, Matrix.cons_val]; ring_nf

theorem lane_y1' (l : Fin 512) : k0_pay39 (F := Ideal) y h (ix2 0 l) = ((cor (L l) 1 : ℝ) : EReal) := lane_y1 H l

theorem lane_y2' (l : Fin 512) : k0_pay40 (F := Ideal) y h (ix2 0 l) = ((cor (L l) 3 + 1 : ℝ) : EReal) := by
  rw [EReal.coe_add, ← lane_y2 H, ← one_f32]; rfl

theorem lane_area (l : Fin 512) : k0_pay41 (F := Ideal) x y w h (ix2 0 l) = ((area (cor (L l)) : ℝ) : EReal) := by
  show (k0_pay37 (F := Ideal) x w (ix2 0 l) - k0_pay35 (F := Ideal) x w (ix2 0 l) + Ideal.ofBits .f32 0x3F800000#32)
    * (k0_pay38 (F := Ideal) y h (ix2 0 l) - k0_pay36 (F := Ideal) y h (ix2 0 l) + Ideal.ofBits .f32 0x3F800000#32) = _
  rw [lane_x1 H, lane_x2 H, lane_y1 H, lane_y2 H, one_f32]
  simp only [← EReal.coe_sub, ← EReal.coe_add, ← EReal.coe_mul]; rfl

/-- The extent two boxes share in x, before it is cut at zero. -/
theorem lane_dx {v36 v44 : FVec Ideal S512x512 .bf16} (r l : Fin 512) :
    k0_pay42 (F := Ideal) v36 v44 x w (ix2 r l)
      = min ((cor (L l) 2 + 1 : ℝ) : EReal) (v44 (ix2 r l)) - max ((cor (L l) 0 : ℝ) : EReal) (v36 (ix2 r l)) := by
  have e1 := broadcastTo_1b_ab_apply (truncf (F := Ideal) (φ := .f32) .bf16 (k0_pay35 (F := Ideal) x w) bitsLt_bf16_f32) broadcasts_S1x512_S512x512 r l
  have e2 := broadcastTo_1b_ab_apply (truncf (F := Ideal) (φ := .f32) .bf16 (addf (k0_pay37 (F := Ideal) x w) (broadcast S1x512 (Scalar.ofBits .f32 0x3F800000#32))) bitsLt_bf16_f32) broadcasts_S1x512_S512x512 r l
  refine congrArg₂ (· - ·) (congrArg (min · _) (e2.trans ?_)) (congrArg (max · _) (e1.trans (lane_x1 H l)))
  rw [EReal.coe_add, ← lane_x2 H, ← one_f32]; rfl

end Lane

/-- The shared area of two boxes in the kernel's words. -/
theorem ovl_words (c d : Box) :
    max (min ((c 2 + 1 : ℝ) : EReal) ((d 2 + 1 : ℝ) : EReal) - max ((c 0 : ℝ) : EReal) ((d 0 : ℝ) : EReal)) 0
      * max (min ((c 3 + 1 : ℝ) : EReal) ((d 3 + 1 : ℝ) : EReal) - max ((c 1 : ℝ) : EReal) ((d 1 : ℝ) : EReal)) 0
      = ((ovl c d : ℝ) : EReal) := by
  rw [← EReal.coe_zero]
  simp only [← coe_min, ← coe_max, ← EReal.coe_sub, ← EReal.coe_mul]
  unfold ovl
  rw [min_add_add_right, min_add_add_right]
  ring_nf

/-! ## A block away from the diagonal -/

theorem block_eq {x y w h : FVec Ideal S512x1 .f32} {R : Fin 512 → Box} (H : RowIs x y w h R)
    {x' y' w' h' : FVec Ideal S1x512 .f32} {L : Fin 512 → Box} (H' : LaneIs x' y' w' h' L)
    (oR : ∀ r, Ordered (cor (R r))) (oL : ∀ l, Ordered (cor (L l))) (acc : EReal) :
    k0_pay68 (F := Ideal) (k0_pay60 (F := Ideal) y h) (k0_pay61 (F := Ideal) x y w h) (k0_pay63 (F := Ideal) y h) acc (k0_pay39 (F := Ideal) y' h') (k0_pay40 (F := Ideal) y' h') (k0_pay41 (F := Ideal) x' y' w' h')
        (k0_pay42 (F := Ideal) (k0_pay62 (F := Ideal) x w) (k0_pay65 (F := Ideal) (k0_pay59 (F := Ideal) x w) (k0_pay64 (F := Ideal))) x' w')
      = acc + ((∑ r, ∑ l, plog flo (cor (L l)) (cor (R r)) : ℝ) : EReal) := by
  have e1 := fun r l => broadcastTo_1b_ab_apply (k0_pay39 (F := Ideal) y' h') broadcasts_S1x512_S512x512 r l
  have e2 := fun r l => broadcastTo_1b_ab_apply (k0_pay40 (F := Ideal) y' h') broadcasts_S1x512_S512x512 r l
  have e3 := fun r l => broadcastTo_1b_ab_apply (k0_pay41 (F := Ideal) x' y' w' h') broadcasts_S1x512_S512x512 r l
  refine congrArg (acc + ·) ((quot_block _ _
    (mulf (maximumf (k0_pay42 (F := Ideal) (k0_pay62 (F := Ideal) x w) (k0_pay65 (F := Ideal) (k0_pay59 (F := Ideal) x w) (k0_pay64 (F := Ideal))) x' w') (broadcast S512x512 (Scalar.ofBits .bf16 0x0000#16)))
      (maximumf (subf (minimumf (broadcastTo S512x512 (k0_pay40 (F := Ideal) y' h') broadcasts_S1x512_S512x512) (k0_pay66 (F := Ideal) (k0_pay60 (F := Ideal) y h)))
        (maximumf (broadcastTo S512x512 (k0_pay39 (F := Ideal) y' h') broadcasts_S1x512_S512x512) (k0_pay63 (F := Ideal) y h))) (broadcast S512x512 (Scalar.ofBits .bf16 0x0000#16))))
    (fun r l => ovl (cor (L l)) (cor (R r))) (fun r l => area (cor (L l)) + area (cor (R r))) (fun r l => ?_) (fun r l => ?_) (fun r l => rfl)
    (fun r l => union_pos (oL l) (oR r))).trans ?_)
  · rw [mulf_apply, maximumf_apply, maximumf_apply, subf_apply, minimumf_apply, maximumf_apply, e1, e2, lane_dx H', bx1 H, bx2 H,
      by1 H, by2 H, lane_y1' H', lane_y2' H', broadcast_apply]
    rw [show (Scalar.ofBits FTy.bf16 0x0000#16 : Ideal .bf16) = (0 : EReal) from Ideal.ofBits_zero_bf16]
    exact ovl_words _ _
  · refine congrArg (· - _) ?_
    rw [EReal.coe_add, ← lane_area H', ← barea H r l, ← e3 r l]; rfl
  · simp only [← plog_eq_sub flo_pos (oL _) (oR _)]; rfl

/-! ## A block on the diagonal -/

/-- The mask of the diagonal block: column number at least row number. -/
theorem mask_apply (r l : Fin 512) : k0_pay70 (ix2 r l) = BitVec.ofBool (decide (r ≤ l)) := by
  have e0 := iota_single_apply .tc S512x512 32 0 iota_S512x512_d0_w32 (ix2 r l)
  have e1 := iota_single_apply .tc S512x512 32 1 iota_S512x512_d1_w32 (ix2 r l)
  refine (congrArg₂ (IntOp.cmpi .sge) e1 e0).trans ?_
  show BitVec.ofBool ((BitVec.ofNat 32 r.val).sle (BitVec.ofNat 32 l.val)) = _
  rw [BitVec.sle_eq_decide, toInt_small (by have := r.isLt; omega), toInt_small (by have := l.isLt; omega)]
  exact congrArg _ (decide_eq_decide.mpr (by rw [Nat.cast_le]; rfl))

/-- The pairs a diagonal block counts: the column box comes before the row box. -/
def tri (L R : Fin 512 → Box) (r l : Fin 512) : ℝ := if r ≤ l then 0 else plog flo (cor (L l)) (cor (R r))

theorem log_floor_self {a : ℝ} (ha : 0 < a) : Real.log (max a (flo * a)) - Real.log a = 0 := by
  rw [max_eq_left (by have : flo < 1 := by norm_num [flo]
                      nlinarith), sub_self]

theorem diag_eq {x y w h : FVec Ideal S512x1 .f32} {R : Fin 512 → Box} (H : RowIs x y w h R)
    {x' y' w' h' : FVec Ideal S1x512 .f32} {L : Fin 512 → Box} (H' : LaneIs x' y' w' h' L)
    (oR : ∀ r, Ordered (cor (R r))) (oL : ∀ l, Ordered (cor (L l))) (v59 v159 : EReal) :
    k0_pay1 (F := Ideal) v59
        (k0_pay82 (F := Ideal) (k0_pay62 x w) (k0_pay63 y h) (k0_pay65 (k0_pay59 x w) k0_pay64) (k0_pay66 (k0_pay60 y h)) (k0_pay67 (k0_pay61 x y w h))
          k0_pay70 (k0_pay72 y') (k0_pay74 h') (k0_pay75 x' w') (k0_pay76 y' h') (k0_pay77 x' w') k0_pay78)
        (k0_pay83 (F := Ideal) (k0_pay62 x w) (k0_pay63 y h) (k0_pay65 (k0_pay59 x w) k0_pay64) (k0_pay66 (k0_pay60 y h)) (k0_pay67 (k0_pay61 x y w h))
          k0_pay70 (k0_pay72 y') (k0_pay74 h') (k0_pay75 x' w') (k0_pay76 y' h') (k0_pay77 x' w') k0_pay78)
        (k0_pay84 (F := Ideal) (k0_pay62 x w) (k0_pay63 y h) (k0_pay65 (k0_pay59 x w) k0_pay64) (k0_pay66 (k0_pay60 y h)) (k0_pay67 (k0_pay61 x y w h))
          k0_pay70 (k0_pay72 y') (k0_pay74 h') (k0_pay75 x' w') (k0_pay76 y' h') (k0_pay77 x' w') k0_pay78)
        v159
      = v159 + (v59 + ((∑ r, ∑ l, tri L R r l : ℝ) : EReal)) := by
  have e1 := fun r l => broadcastTo_1b_ab_apply (truncf (F := Ideal) (φ := .f32) .bf16 (k0_pay76 y' h') bitsLt_bf16_f32) broadcasts_S1x512_S512x512 r l
  have e2 := fun r l => broadcastTo_1b_ab_apply (truncf (F := Ideal) (φ := .f32) .bf16
    (addf (k0_pay79 (k0_pay72 y') (k0_pay74 h') k0_pay78) (broadcast S1x512 (Scalar.ofBits .f32 0x3F800000#32))) bitsLt_bf16_f32) broadcasts_S1x512_S512x512 r l
  have e3 := fun r l => broadcastTo_1b_ab_apply (k0_pay41 (F := Ideal) x' y' w' h') broadcasts_S1x512_S512x512 r l
  refine congrArg (v159 + ·) (congrArg (v59 + ·) ?_)
  refine (quot_block
    (maximumf (subf (k0_pay81 (F := Ideal) (k0_pay62 x w) (k0_pay63 y h) (k0_pay65 (k0_pay59 x w) k0_pay64) (k0_pay66 (k0_pay60 y h)) (k0_pay67 (k0_pay61 x y w h))
          k0_pay70 (k0_pay72 y') (k0_pay74 h') (k0_pay75 x' w') (k0_pay76 y' h') (k0_pay77 x' w') k0_pay78)
        (k0_pay80 (F := Ideal) (k0_pay62 x w) (k0_pay63 y h) (k0_pay65 (k0_pay59 x w) k0_pay64) (k0_pay66 (k0_pay60 y h))
          k0_pay70 (k0_pay72 y') (k0_pay74 h') (k0_pay75 x' w') (k0_pay76 y' h') (k0_pay77 x' w') k0_pay78))
      (mulf (broadcast S512x512 (Scalar.ofBits .bf16 0x3E9A#16))
        (k0_pay81 (F := Ideal) (k0_pay62 x w) (k0_pay63 y h) (k0_pay65 (k0_pay59 x w) k0_pay64) (k0_pay66 (k0_pay60 y h)) (k0_pay67 (k0_pay61 x y w h))
          k0_pay70 (k0_pay72 y') (k0_pay74 h') (k0_pay75 x' w') (k0_pay76 y' h') (k0_pay77 x' w') k0_pay78)))
    (k0_pay81 (F := Ideal) (k0_pay62 x w) (k0_pay63 y h) (k0_pay65 (k0_pay59 x w) k0_pay64) (k0_pay66 (k0_pay60 y h)) (k0_pay67 (k0_pay61 x y w h))
          k0_pay70 (k0_pay72 y') (k0_pay74 h') (k0_pay75 x' w') (k0_pay76 y' h') (k0_pay77 x' w') k0_pay78)
    (k0_pay80 (F := Ideal) (k0_pay62 x w) (k0_pay63 y h) (k0_pay65 (k0_pay59 x w) k0_pay64) (k0_pay66 (k0_pay60 y h))
          k0_pay70 (k0_pay72 y') (k0_pay74 h') (k0_pay75 x' w') (k0_pay76 y' h') (k0_pay77 x' w') k0_pay78)
    (fun r l => if r ≤ l then 0 else ovl (cor (L l)) (cor (R r))) (fun r l => area (cor (L l)) + area (cor (R r)))
    (fun r l => ?_) (fun r l => ?_) (fun r l => rfl) (fun r l => ?_)).trans ?_
  · have q := lane_dx H' (v36 := k0_pay62 x w) (v44 := k0_pay65 (k0_pay59 x w) k0_pay64) r l
    rw [bx1 H, bx2 H] at q
    show Scalar.select (k0_pay70 (ix2 r l)) (Ideal.ofBits .bf16 0x0000#16)
      (max (k0_pay42 (F := Ideal) (k0_pay62 x w) (k0_pay65 (k0_pay59 x w) k0_pay64) x' w' (ix2 r l)) (Ideal.ofBits .bf16 0x0000#16)
      * max (min (broadcastTo S512x512 (truncf (F := Ideal) (φ := .f32) .bf16
          (addf (k0_pay79 (k0_pay72 y') (k0_pay74 h') k0_pay78) (broadcast S1x512 (Scalar.ofBits .f32 0x3F800000#32))) bitsLt_bf16_f32) broadcasts_S1x512_S512x512 (ix2 r l))
          (k0_pay66 (F := Ideal) (k0_pay60 y h) (ix2 r l))
        - max (broadcastTo S512x512 (truncf (F := Ideal) (φ := .f32) .bf16 (k0_pay76 y' h') bitsLt_bf16_f32) broadcasts_S1x512_S512x512 (ix2 r l))
          (k0_pay63 (F := Ideal) y h (ix2 r l))) (Ideal.ofBits .bf16 0x0000#16)) = _
    rw [q, e1, e2, by1 H, by2 H, mask_apply, Ideal.ofBits_zero_bf16]
    by_cases hrl : r ≤ l
    · rw [if_pos hrl, decide_eq_true hrl]; rfl
    · rw [if_neg hrl, decide_eq_false hrl]
      refine Eq.trans ?_ (ovl_words _ _)
      rw [← lane_y2' H', ← lane_y1' H']; rfl
  · refine congrArg (· - _) ?_
    rw [EReal.coe_add, ← lane_area H', ← barea H r l, ← e3 r l]; rfl
  · by_cases hrl : r ≤ l
    · rw [if_pos hrl]; have := one_le_area (oL l); have := one_le_area (oR r); linarith
    · rw [if_neg hrl]; exact union_pos (oL l) (oR r)
  · refine congrArg _ (Finset.sum_congr rfl fun r _ => Finset.sum_congr rfl fun l _ => ?_)
    unfold tri
    by_cases hrl : r ≤ l
    · simp only [if_pos hrl, sub_zero]
      exact log_floor_self (by have := one_le_area (oL l); have := one_le_area (oR r); linarith)
    · simp only [if_neg hrl]
      exact plog_eq_sub flo_pos (oL l) (oR r)

end Cert.Loss
end
end
-- ==== Proof.Overlap.lean ====
/-
  The kernel's table of clipped overlap ratios, truth boxes down the rows and predicted boxes along the columns, and the two
  row numbers it finds in each column.
-/
module

public import proofs.«01_k».proof.Proof.Blocks

@[expose] public section

set_option maxRecDepth 16384

noncomputable section

namespace Cert.Loss

open Idealize.ShloMosaic Idealize.ShloMosaic.ValueIdx Cert.KernelIdeal Cert.KernelIdeal.Gen
open scoped BigOperators

/-- The overlap ratio clipped to [eps, 1]. -/
def ciou (c d : Box) : ℝ := min 1 (max eps (iou c d))

/-- A column of the table: the clipped overlap ratios of all truth boxes with one predicted box. -/
def ccol (G : Fin 512 → Box) (d : Box) (r : Fin 512) : EReal := ((ciou (cor (G r)) (cor d) : ℝ) : EReal)

section Wide
variable {x y w h : FVec Ideal S1x2048 .f32} {P : Fin 2048 → Box} (H : LaneIs x y w h P)
include H

theorem wide_x1 (l : Fin 2048) : k0_pay7 (F := Ideal) x w (ix2 0 l) = ((cor (P l) 0 : ℝ) : EReal) := by
  obtain ⟨hx, hy, hw, hh⟩ := H l
  show k0_pay3 (F := Ideal) x (ix2 0 l) - k0_pay5 (F := Ideal) w (ix2 0 l) * Ideal.ofBits .f32 0x3F000000#32 = _
  unfold k0_pay3 k0_pay5
  rw [cast_self, cast_self, hx, hw, half_f32, ← EReal.coe_mul, ← EReal.coe_sub]; simp only [cor, Matrix.cons_val]; ring_nf

theorem wide_y1 (l : Fin 2048) : k0_pay8 (F := Ideal) y h (ix2 0 l) = ((cor (P l) 1 : ℝ) : EReal) := by
  obtain ⟨hx, hy, hw, hh⟩ := H l
  show k0_pay4 (F := Ideal) y (ix2 0 l) - k0_pay6 (F := Ideal) h (ix2 0 l) * Ideal.ofBits .f32 0x3F000000#32 = _
  unfold k0_pay4 k0_pay6
  rw [cast_self, cast_self, hy, hh, half_f32, ← EReal.coe_mul, ← EReal.coe_sub]; simp only [cor, Matrix.cons_val]; ring_nf

theorem wide_x2 (l : Fin 2048) : k0_pay9 (F := Ideal) x w (ix2 0 l) = ((cor (P l) 2 : ℝ) : EReal) := by
  obtain ⟨hx, hy, hw, hh⟩ := H l
  show k0_pay3 (F := Ideal) x (ix2 0 l) + k0_pay5 (F := Ideal) w (ix2 0 l) * Ideal.ofBits .f32 0x3F000000#32 = _
  unfold k0_pay3 k0_pay5
  rw [cast_self, cast_self, hx, hw, half_f32, ← EReal.coe_mul, ← EReal.coe_add]; simp only [cor, Matrix.cons_val]; ring_nf

theorem wide_y2 (l : Fin 2048) : k0_pay10 (F := Ideal) y h (ix2 0 l) = ((cor (P l) 3 : ℝ) : EReal) := by
  obtain ⟨hx, hy, hw, hh⟩ := H l
  show k0_pay4 (F := Ideal) y (ix2 0 l) + k0_pay6 (F := Ideal) h (ix2 0 l) * Ideal.ofBits .f32 0x3F000000#32 = _
  unfold k0_pay4 k0_pay6
  rw [cast_self, cast_self, hy, hh, half_f32, ← EReal.coe_mul, ← EReal.coe_add]; simp only [cor, Matrix.cons_val]; ring_nf

theorem wide_area (l : Fin 2048) : k0_pay11 (F := Ideal) x y w h (ix2 0 l) = ((area (cor (P l)) : ℝ) : EReal) := by
  show (k0_pay9 (F := Ideal) x w (ix2 0 l) - k0_pay7 (F := Ideal) x w (ix2 0 l) + Ideal.ofBits .f32 0x3F800000#32)
    * (k0_pay10 (F := Ideal) y h (ix2 0 l) - k0_pay8 (F := Ideal) y h (ix2 0 l) + Ideal.ofBits .f32 0x3F800000#32) = _
  rw [wide_x1 H, wide_x2 H, wide_y1 H, wide_y2 H, one_f32]
  simp only [← EReal.coe_sub, ← EReal.coe_add, ← EReal.coe_mul]; rfl

end Wide

section Table
variable {x y w h : FVec Ideal S512x1 .f32} {G : Fin 512 → Box} (HG : RowIs x y w h G)
  {X Y W Z : FVec Ideal S1x2048 .f32} {P : Fin 2048 → Box} (HP : LaneIs X Y W Z P)
  (oG : ∀ r, Ordered (cor (G r))) (oP : ∀ l, Ordered (cor (P l)))

variable (x y w h X Y W Z) in
/-- The table before its upper clip. -/
abbrev table : FVec Ideal S512x2048 .f32 :=
  k0_pay14 (F := Ideal) (k0_pay7 X W) (k0_pay8 Y Z) (k0_pay9 X W) (k0_pay10 Y Z) (k0_pay11 X Y W Z) x y w h (k0_pay12 x w) (k0_pay13 h)

include HG HP oG oP

theorem table_apply (r : Fin 512) (q : Fin 2048) :
    table x y w h X Y W Z (ix2 r q) = ((max eps (iou (cor (G r)) (cor (P q))) : ℝ) : EReal) := by
  have g0 := row_x1 HG r
  have g1 := row_y1 HG r
  have g2 := row_x2 HG r
  have g3 := row_y2 HG r
  have ga := row_area HG r
  have eC := fun v : FVec Ideal S512x1 .f32 => bcol_apply v broadcasts_S512x1_S512x2048 r q
  have eR := fun v : FVec Ideal S1x2048 .f32 => broadcastTo_1b_ab_apply v broadcasts_S1x2048_S512x2048 r q
  have ov : max (min (((cor (G r)) 2 + 1 : ℝ) : EReal) (((cor (P q)) 2 + 1 : ℝ) : EReal) - max (((cor (G r)) 0 : ℝ) : EReal) (((cor (P q)) 0 : ℝ) : EReal)) 0
      * max (min (((cor (G r)) 3 + 1 : ℝ) : EReal) (((cor (P q)) 3 + 1 : ℝ) : EReal) - max (((cor (G r)) 1 : ℝ) : EReal) (((cor (P q)) 1 : ℝ) : EReal)) 0
      = ((ovl (cor (G r)) (cor (P q)) : ℝ) : EReal) := ovl_words _ _
  have key : table x y w h X Y W Z (ix2 r q)
      = max (Ideal.ofBits .f32 0x33D6BF95#32)
          (Ideal.div
            (max (min (k0_pay59 (F := Ideal) x w (ix2 r 0) + Ideal.ofBits .f32 0x3F800000#32) (k0_pay9 (F := Ideal) X W (ix2 0 q) + Ideal.ofBits .f32 0x3F800000#32)
                - max (k0_pay57 (F := Ideal) x w (ix2 r 0)) (k0_pay7 (F := Ideal) X W (ix2 0 q))) (Ideal.ofBits .f32 0x00000000#32)
              * max (min (k0_pay60 (F := Ideal) y h (ix2 r 0) + Ideal.ofBits .f32 0x3F800000#32) (k0_pay10 (F := Ideal) Y Z (ix2 0 q) + Ideal.ofBits .f32 0x3F800000#32)
                - max (k0_pay58 (F := Ideal) y h (ix2 r 0)) (k0_pay8 (F := Ideal) Y Z (ix2 0 q))) (Ideal.ofBits .f32 0x00000000#32))
            (k0_pay61 (F := Ideal) x y w h (ix2 r 0) + k0_pay11 (F := Ideal) X Y W Z (ix2 0 q)
              - max (min (k0_pay59 (F := Ideal) x w (ix2 r 0) + Ideal.ofBits .f32 0x3F800000#32) (k0_pay9 (F := Ideal) X W (ix2 0 q) + Ideal.ofBits .f32 0x3F800000#32)
                - max (k0_pay57 (F := Ideal) x w (ix2 r 0)) (k0_pay7 (F := Ideal) X W (ix2 0 q))) (Ideal.ofBits .f32 0x00000000#32)
              * max (min (k0_pay60 (F := Ideal) y h (ix2 r 0) + Ideal.ofBits .f32 0x3F800000#32) (k0_pay10 (F := Ideal) Y Z (ix2 0 q) + Ideal.ofBits .f32 0x3F800000#32)
                - max (k0_pay58 (F := Ideal) y h (ix2 r 0)) (k0_pay8 (F := Ideal) Y Z (ix2 0 q))) (Ideal.ofBits .f32 0x00000000#32))) := by
    unfold table k0_pay14
    simp only [maximumf_apply, minimumf_apply, divf_apply, subf_apply, addf_apply, mulf_apply]
    rw [eC, eC, eC, eC, eC, eR, eR, eR, eR, eR]
    rfl
  rw [key, g0, g1, g2, g3, ga, wide_x1 HP, wide_x2 HP, wide_y1 HP, wide_y2 HP, wide_area HP, one_f32, eps_f32, Ideal.ofBits_zero_f32]
  simp only [← EReal.coe_add]
  rw [ov, ← EReal.coe_sub]
  change max (eps : EReal) (Ideal.div _ ((union (cor (G r)) (cor (P q)) : ℝ) : EReal)) = _
  rw [div_coe (union_pos (oG r) (oP q)).ne', ← coe_max]
  rfl

theorem clipped_apply (r : Fin 512) (q : Fin 2048) :
    k0_pay15 (F := Ideal) (Scalar.ofBits .f32 0x3F800000#32) (table x y w h X Y W Z) (ix2 r q) = ccol G (P q) r := by
  show min (Ideal.ofBits .f32 0x3F800000#32) (table x y w h X Y W Z (ix2 r q)) = _
  rw [table_apply HG HP oG oP, one_f32, ← coe_min]; rfl

end Table

end Cert.Loss
end
end
-- ==== Proof.Targets.lean ====
/-
  What the kernel does with its table of overlap ratios: the first and second best truth box of every predicted box, the
  corners of that truth box picked out by a product with a zero-one matrix, and the two losses summed over the predicted
  boxes.
-/
module

public import proofs.«01_k».proof.Proof.Overlap
public import Idealize.ShloMosaic.Lib.MatmulPlain

@[expose] public section

set_option maxRecDepth 16384

noncomputable section

namespace Cert.Loss

open Idealize.ShloMosaic Idealize.ShloMosaic.ValueIdx Cert.KernelIdeal Cert.KernelIdeal.Gen
open scoped BigOperators

/-! ## The losses of one predicted box -/

/-- The truth box that overlaps `d` best, and the second best. -/
def best (G : Fin 512 → Box) (d : Box) : Fin 512 := firstMax (ccol G d)
def next (G : Fin 512 → Box) (d : Box) : Fin 512 := secondMax (ccol G d)

/-- The smooth L1 penalty of a difference. -/
def smooth (t : ℝ) : ℝ := if |t| < 1 then 1 / 2 * |t| * |t| else |t| - 1 / 2

/-- Intersection of two boxes given by their corners, and a box's size, without the unit margin. -/
def inter (c d : Box) : ℝ :=
  max (min (c 2) (d 2) - max (c 0) (d 0)) 0 * max (min (c 3) (d 3) - max (c 1) (d 1)) 0
def size (d : Box) : ℝ := |d 2 - d 0| * |d 3 - d 1|

/-- Intersection over the truth box's size: an extended real, as the size may be zero. -/
def iog (c d : Box) : EReal := Ideal.div ((inter c d : ℝ) : EReal) ((size d : ℝ) : EReal)

/-- The repulsion penalty of such a ratio. -/
def pen (x : EReal) : EReal :=
  Scalar.select (Ideal.cmp .ogt x (Ideal.ofBits .f32 0x3F000000#32))
    (Ideal.div (x - Ideal.ofBits .f32 0x3F000000#32) (Ideal.ofBits .f32 0x3F98B90C#32))
    (Ideal.ofBits .f32 0x00000000#32 - Ideal.log (max (Ideal.ofBits .f32 0x3F800000#32 - x) (Ideal.ofBits .f32 0x33D6BF95#32)))

/-- The attraction loss and the repulsion loss, summed over the predicted boxes. -/
def attr (G : Fin 512 → Box) (P : Fin 2048 → Box) : ℝ :=
  ∑ k : Fin 4, ∑ q, smooth (cor (P q) k - cor (G (best G (P q))) k)
def repel (G : Fin 512 → Box) (P : Fin 2048 → Box) : EReal :=
  ∑ q, pen (iog (cor (P q)) (cor (G (next G (P q)))))

/-! ## The row numbers -/

/-- The row numbers of the table's entries. -/
abbrev rowNo : IVec S512x2048 32 := iota .tc S512x2048 32 [0] iota_S512x2048_d0_w32

theorem rowNo_apply (r : Fin 512) (q : Fin 2048) : rowNo (ix2 r q) = BitVec.ofNat 32 r.val :=
  iota_single_apply .tc S512x2048 32 0 iota_S512x2048_d0_w32 (ix2 r q)

/-- The first row attaining each column's maximum, as the kernel finds it. -/
def colWord (X : FVec Ideal S512x2048 .f32) : IVec S1x2048 32 :=
  have m : FVec Ideal S2048 .f32 := multiReduction .maximumf [0] S2048 X 0xFF800000#32 reduces_S512x2048_S2048 (.inl rfl) rfl
  have t : IVec S512x2048 1 := cmpf .oeq X (broadcastTo S512x2048 (shapeCast S1x2048 m shapeCasts_S2048_S1x2048) broadcasts_S1x2048_S512x2048)
  shapeCast S1x2048 (multiReductionI .minsi [0] S2048 (select t rowNo (broadcast S512x2048 512#32)) 2147483647#32 reduces_S512x2048_S2048 rfl)
    shapeCasts_S2048_S1x2048

theorem lift_apply (q : Fin 2048) (r : Fin 512) :
    (reduces_S512x2048_S2048).lift (ix1 q) r = ix2 r q := by
  funext a; apply Fin.ext
  match a with
  | ⟨0, _⟩ => rfl
  | ⟨1, _⟩ => rfl

theorem colWord_apply (X : FVec Ideal S512x2048 .f32) (q : Fin 2048) :
    colWord X (ix2 0 q) = maxWord fun r => X (ix2 r q) := by
  have hm : multiReduction (F := Ideal) .maximumf [0] S2048 X 0xFF800000#32 reduces_S512x2048_S2048 (.inl rfl) rfl (ix1 q)
      = Finset.univ.fold max ⊥ fun r => X (ix2 r q) := by
    refine (Ideal.multiReduction_maximumf_single X 0xFF800000#32 reduces_S512x2048_S2048 (.inl rfl) rfl (ix1 q)).trans ?_
    have e : (X ∘ (reduces_S512x2048_S2048).lift (ix1 q)) = fun r => X (ix2 r q) := funext fun r => congrArg X (lift_apply q r)
    rw [e]
    exact congrArg (fun b => Finset.univ.fold max b _) (by simp [Ideal.ofBits, Ideal.ieee])
  unfold colWord
  refine (shapeCast_a_1a_apply _ _ 0 q).trans ?_
  refine (multiReductionI_eq_fold .minsi _ 2147483647#32 reduces_S512x2048_S2048 rfl (ix1 q)).trans ?_
  refine (Shape.Reduces.fold_filter_drop_single reduces_S512x2048_S2048 _ _ _ (ix1 q)).trans ?_
  unfold maxWord
  refine congrArg (fun f : Fin 512 → BitVec 32 => Finset.univ.fold IntOp.minsi 2147483647#32 f) (funext fun r => ?_)
  change Fin 512 at r
  show select _ _ _ ((reduces_S512x2048_S2048).lift (ix1 q) r) = _
  rw [lift_apply q r]
  show Scalar.select (Ideal.cmp .oeq (X (ix2 r q)) (broadcastTo S512x2048 _ broadcasts_S1x2048_S512x2048 (ix2 r q))) (rowNo (ix2 r q)) 512#32 = _
  rw [rowNo_apply, broadcastTo_1b_ab_apply, shapeCast_a_1a_apply, hm]

/-! ## A table whose columns are known -/

section Words
variable {T : FVec Ideal S512x2048 .f32} {G : Fin 512 → Box} {P : Fin 2048 → Box}
  (HT : ∀ r q, k0_pay15 (F := Ideal) (Scalar.ofBits .f32 0x3F800000#32) T (ix2 r q) = ccol G (P q) r)
include HT

theorem best_word (q : Fin 2048) :
    k0_pay16 (F := Ideal) (Scalar.ofBits .f32 0x3F800000#32) T (ix2 0 q) = BitVec.ofNat 32 (best G (P q)).val := by
  refine (colWord_apply (k0_pay15 (F := Ideal) (Scalar.ofBits .f32 0x3F800000#32) T) q).trans ?_
  rw [show (fun r => k0_pay15 (F := Ideal) (Scalar.ofBits .f32 0x3F800000#32) T (ix2 r q)) = ccol G (P q) from funext fun r => HT r q]
  exact maxWord_eq _

theorem next_word (q : Fin 2048) :
    k0_pay17 (F := Ideal) (Scalar.ofBits .f32 0x3F800000#32) T (ix2 0 q) = BitVec.ofNat 32 (next G (P q)).val := by
  refine (colWord_apply (select (cmpi .eq rowNo (broadcastTo S512x2048 (k0_pay16 (F := Ideal) (Scalar.ofBits .f32 0x3F800000#32) T)
    broadcasts_S1x2048_S512x2048)) (broadcast S512x2048 (Ideal.ofBits .f32 0x00000000#32)) (k0_pay15 (F := Ideal) (Scalar.ofBits .f32 0x3F800000#32) T)) q).trans ?_
  refine (congrArg maxWord (funext fun r => ?_)).trans (maxWord_eq (dropMax (ccol G (P q))))
  show Scalar.select (BitVec.ofBool (rowNo (ix2 r q) == broadcastTo S512x2048 (k0_pay16 (F := Ideal) (Scalar.ofBits .f32 0x3F800000#32) T) broadcasts_S1x2048_S512x2048 (ix2 r q)))
    (Ideal.ofBits .f32 0x00000000#32) (k0_pay15 (F := Ideal) (Scalar.ofBits .f32 0x3F800000#32) T (ix2 r q)) = _
  rw [rowNo_apply, HT, Ideal.ofBits_zero_f32]
  rw [broadcastTo_1b_ab_apply, best_word HT]
  show _ = if r = best G (P q) then (0 : EReal) else ccol G (P q) r
  by_cases h : r = best G (P q)
  · subst h; rw [if_pos rfl, beq_self_eq_true]; rfl
  · rw [if_neg h, beq_eq_false_iff_ne.mpr (fun e => h (word_inj.mp e))]; rfl

end Words

/-! ## Picking out a truth box -/

/-- Four rows stacked. -/
theorem stack4_apply {n : ℕ} {α : Type} (a b c d : (⟨2, ![1, n]⟩ : Shape).Idx → α)
    (h : Shape.Concatenates ([⟨⟨2, ![1, n]⟩, a⟩, ⟨⟨2, ![1, n]⟩, b⟩, ⟨⟨2, ![1, n]⟩, c⟩, ⟨⟨2, ![1, n]⟩, d⟩].map
      (fun p : ((s : Shape) × (s.Idx → α)) => p.1)) ⟨2, ![4, n]⟩ 0) (k : Fin 4) (l : Fin n) :
    concatenate ⟨2, ![4, n]⟩ 0 [⟨⟨2, ![1, n]⟩, a⟩, ⟨⟨2, ![1, n]⟩, b⟩, ⟨⟨2, ![1, n]⟩, c⟩, ⟨⟨2, ![1, n]⟩, d⟩] h (ix2 k l)
      = (![a, b, c, d] k) (ix2 0 l) := by
  have off : ∀ x : Fin 2, x.cast rfl ≠ (0 : Fin 2) → ((ix2 (0 : Fin 1) l : (⟨2, ![1, n]⟩ : Shape).Idx) x).val
      = ((ix2 k l : (⟨2, ![4, n]⟩ : Shape).Idx) (x.cast rfl)).val := fun x hx => by
    match x with
    | ⟨0, _⟩ => exact absurd rfl hx
    | ⟨1, _⟩ => rfl
  match k with
  | ⟨0, _⟩ => exact concatenate_apply_piece _ _ h _ 0 (by simp) ⟨2, ![1, n]⟩ a rfl rfl 0 rfl (ix2 0 l) off rfl
  | ⟨1, _⟩ => exact concatenate_apply_piece _ _ h _ 1 (by simp) ⟨2, ![1, n]⟩ b rfl rfl 1 rfl (ix2 0 l) off rfl
  | ⟨2, _⟩ => exact concatenate_apply_piece _ _ h _ 2 (by simp) ⟨2, ![1, n]⟩ c rfl rfl 2 rfl (ix2 0 l) off rfl
  | ⟨3, _⟩ => exact concatenate_apply_piece _ _ h _ 3 (by simp) ⟨2, ![1, n]⟩ d rfl rfl 3 rfl (ix2 0 l) off rfl

section Pick
variable {x y w h : FVec Ideal S1x512 .f32} {G : Fin 512 → Box} (HG : LaneIs x y w h G)
include HG

/-- The stacked corners of the truth boxes. -/
theorem corners_apply (k : Fin 4) (r : Fin 512) :
    k0_pay26 (F := Ideal) (k0_pay19 y) (k0_pay21 h) (k0_pay22 x w) (k0_pay23 y h) (k0_pay24 x w) k0_pay25 (ix2 k r)
      = ((cor (G r) k : ℝ) : EReal) := by
  obtain ⟨hx, hy, hw, hh⟩ := HG r
  refine (stack4_apply _ _ _ _ concatenates_S1x512_S1x512_S1x512_S1x512_S4x512_d0 k r).trans ?_
  match k with
  | ⟨0, _⟩ =>
    show k0_pay18 (F := Ideal) x (ix2 0 r) - k0_pay20 (F := Ideal) w (ix2 0 r) * Ideal.ofBits .f32 0x3F000000#32 = _
    unfold k0_pay18 k0_pay20
    rw [cast_self, cast_self, hx, hw, half_f32, ← EReal.coe_mul, ← EReal.coe_sub]
    show _ = ((G r 0 - G r 2 / 2 : ℝ) : EReal); ring_nf
  | ⟨1, _⟩ =>
    show k0_pay19 (F := Ideal) y (ix2 0 r) - k0_pay21 (F := Ideal) h (ix2 0 r) * Ideal.ofBits .f32 0x3F000000#32 = _
    unfold k0_pay19 k0_pay21
    rw [cast_self, cast_self, hy, hh, half_f32, ← EReal.coe_mul, ← EReal.coe_sub]
    show _ = ((G r 1 - G r 3 / 2 : ℝ) : EReal); ring_nf
  | ⟨2, _⟩ =>
    show k0_pay18 (F := Ideal) x (ix2 0 r) + k0_pay20 (F := Ideal) w (ix2 0 r) * Ideal.ofBits .f32 0x3F000000#32 = _
    unfold k0_pay18 k0_pay20
    rw [cast_self, cast_self, hx, hw, half_f32, ← EReal.coe_mul, ← EReal.coe_add]
    show _ = ((G r 0 + G r 2 / 2 : ℝ) : EReal); ring_nf
  | ⟨3, _⟩ =>
    show k0_pay19 (F := Ideal) y (ix2 0 r) + k0_pay21 (F := Ideal) h (ix2 0 r) * Ideal.ofBits .f32 0x3F000000#32 = _
    unfold k0_pay19 k0_pay21
    rw [cast_self, cast_self, hy, hh, half_f32, ← EReal.coe_mul, ← EReal.coe_add]
    show _ = ((G r 1 + G r 3 / 2 : ℝ) : EReal); ring_nf

/-- The product with the zero-one matrix of the row numbers `u` is the corner of that truth box. -/
theorem pick_apply (U : IVec S1x2048 32) (u : Fin 2048 → Fin 512) (HU : ∀ q, U (ix2 0 q) = BitVec.ofNat 32 (u q).val)
    (k : Fin 4) (q : Fin 2048) :
    k0_pay27 (F := Ideal) rowNo U (k0_pay19 y) (k0_pay21 h) (k0_pay22 x w) (k0_pay23 y h) (k0_pay24 x w) k0_pay25 (ix2 k q)
      = ((cor (G (u q)) k : ℝ) : EReal) := by
  have hot : ∀ r : Fin 512, (sitofp (F := Ideal) .f32 (extui 32 (cmpi .eq rowNo (broadcastTo S512x2048 U broadcasts_S1x2048_S512x2048)) natLt_1_32)) (ix2 r q)
      = if r = u q then (1 : EReal) else 0 := by
    intro r
    show (((BitVec.setWidth 32 (BitVec.ofBool (rowNo (ix2 r q) == broadcastTo S512x2048 U broadcasts_S1x2048_S512x2048 (ix2 r q)))).toInt : ℝ) : EReal) = _
    rw [rowNo_apply, broadcastTo_1b_ab_apply, HU]
    by_cases e : r = u q
    · subst e; rw [if_pos rfl, beq_self_eq_true]
      show (((1#32 : BitVec 32).toInt : ℝ) : EReal) = 1
      norm_num
    · rw [if_neg e, beq_eq_false_iff_ne.mpr (fun e' => e (word_inj.mp e'))]; norm_num
  refine (Ideal.matmul_plain_apply (M := 4) (K := 512) (N := 2048) none
    (k0_pay26 (F := Ideal) (k0_pay19 y) (k0_pay21 h) (k0_pay22 x w) (k0_pay23 y h) (k0_pay24 x w) k0_pay25)
    (sitofp (F := Ideal) .f32 (extui 32 (cmpi .eq rowNo (broadcastTo S512x2048 U broadcasts_S1x2048_S512x2048)) natLt_1_32))
    (constant S4x2048 .f32 0x00000000#32) k q).trans ?_
  show Ideal.ofBits .f32 0x00000000#32 + _ = _
  rw [Ideal.ofBits_zero_f32, zero_add]
  simp only [hot, corners_apply HG, mul_ite, mul_one, mul_zero]
  rw [Finset.sum_ite_eq' Finset.univ (u q), if_pos (Finset.mem_univ _)]

end Pick

/-! ## The two losses -/

theorem abs_coe (a : ℝ) : max (a : EReal) (-(a : EReal)) = ((|a| : ℝ) : EReal) := by
  rw [← EReal.coe_neg, ← coe_max]; rfl

/-- The smooth L1 penalty as the programs compute it. -/
theorem smooth_words (t : ℝ) :
    Scalar.select (Ideal.cmp .olt (max (t : EReal) (-(t : EReal))) (Ideal.ofBits .f32 0x3F800000#32))
      (Ideal.ofBits .f32 0x3F000000#32 * max (t : EReal) (-(t : EReal)) * max (t : EReal) (-(t : EReal)))
      (max (t : EReal) (-(t : EReal)) - Ideal.ofBits .f32 0x3F000000#32) = ((smooth t : ℝ) : EReal) := by
  rw [abs_coe, one_f32, half_f32, ← EReal.coe_mul, ← EReal.coe_mul, ← EReal.coe_sub]
  show Scalar.select (BitVec.ofBool (decide (((|t| : ℝ) : EReal) < ((1 : ℝ) : EReal)))) _ _ = _
  unfold smooth
  by_cases h : |t| < 1
  · rw [if_pos h, decide_eq_true (EReal.coe_lt_coe_iff.mpr h)]; rfl
  · rw [if_neg h, decide_eq_false (fun e => h (EReal.coe_lt_coe_iff.mp e))]; rfl

/-- The sum of an array of one row, or of four, as the kernel takes it. -/
theorem mass4_eq (Y : FVec Ideal S4x2048 .f32) :
    extractAt ![0, 0, 0] (shapeCast S1x1x1 (multiReduction (F := Ideal) .add [1, 2] S1 (shapeCast S1x4x2048 Y shapeCasts_S4x2048_S1x4x2048)
      0x00000000#32 reduces_S1x4x2048_S1 (.inl rfl) rfl) shapeCasts_S1_S1x1x1) inpos_S1x1x1_p0_0_0
      = ∑ k : Fin 4, ∑ q : Fin 2048, Y (ix2 k q) := by
  refine (Ideal.multiReduction_add_total (φ := .f32) (shapeCast S1x4x2048 Y shapeCasts_S4x2048_S1x4x2048) 0x00000000#32
    reduces_S1x4x2048_S1 (by decide) (.inl rfl) rfl _).trans ?_
  exact (Equiv.sum_comp (Shape.reshapeEquiv shapeCasts_S4x2048_S1x4x2048) Y).trans (sum_idx2 Y)

theorem mass1_eq (Y : FVec Ideal S1x2048 .f32) :
    extractAt ![0, 0, 0] (shapeCast S1x1x1 (multiReduction (F := Ideal) .add [1, 2] S1 (shapeCast S1x1x2048 Y shapeCasts_S1x2048_S1x1x2048)
      0x00000000#32 reduces_S1x1x2048_S1 (.inl rfl) rfl) shapeCasts_S1_S1x1x1) inpos_S1x1x1_p0_0_0
      = ∑ q : Fin 2048, Y (ix2 0 q) := by
  refine (Ideal.multiReduction_add_total (φ := .f32) (shapeCast S1x1x2048 Y shapeCasts_S1x2048_S1x1x2048) 0x00000000#32
    reduces_S1x1x2048_S1 (by decide) (.inl rfl) rfl _).trans ?_
  refine ((Equiv.sum_comp (Shape.reshapeEquiv shapeCasts_S1x2048_S1x1x2048) Y).trans (sum_idx2 Y)).trans ?_
  exact Fin.sum_univ_one _

section Losses
variable {x y w h : FVec Ideal S1x512 .f32} {G : Fin 512 → Box} (HG : LaneIs x y w h G)
  {X Y W Z : FVec Ideal S1x2048 .f32} {P : Fin 2048 → Box} (HP : LaneIs X Y W Z P)
include HG HP

theorem attr_word (U : IVec S1x2048 32) (HU : ∀ q, U (ix2 0 q) = BitVec.ofNat 32 (best G (P q)).val) :
    k0_pay28 (F := Ideal) (k0_pay7 X W) (k0_pay8 Y Z) (k0_pay9 X W) (k0_pay10 Y Z) rowNo U (k0_pay19 y) (k0_pay21 h) (k0_pay22 x w)
      (k0_pay23 y h) (k0_pay24 x w) k0_pay25 = ((attr G P : ℝ) : EReal) := by
  refine (mass4_eq _).trans ?_
  unfold attr
  rw [coe_sum]
  refine Finset.sum_congr rfl fun k _ => ?_
  rw [coe_sum]
  refine Finset.sum_congr rfl fun q _ => ?_
  have hd : subf (F := Ideal) (φ := .f32) (concatenate S4x2048 0 [⟨S1x2048, k0_pay7 (F := Ideal) X W⟩, ⟨S1x2048, k0_pay8 Y Z⟩, ⟨S1x2048, k0_pay9 X W⟩,
      ⟨S1x2048, k0_pay10 Y Z⟩] concatenates_S1x2048_S1x2048_S1x2048_S1x2048_S4x2048_d0)
      (k0_pay27 (F := Ideal) rowNo U (k0_pay19 y) (k0_pay21 h) (k0_pay22 x w) (k0_pay23 y h) (k0_pay24 x w) k0_pay25) (ix2 k q)
      = ((cor (P q) k - cor (G (best G (P q))) k : ℝ) : EReal) := by
    rw [subf_apply, pick_apply HG U _ HU, EReal.coe_sub]
    refine congrArg (· - _) ((stack4_apply _ _ _ _ concatenates_S1x2048_S1x2048_S1x2048_S1x2048_S4x2048_d0 k q).trans ?_)
    match k with
    | ⟨0, _⟩ => exact wide_x1 HP q
    | ⟨1, _⟩ => exact wide_y1 HP q
    | ⟨2, _⟩ => exact wide_x2 HP q
    | ⟨3, _⟩ => exact wide_y2 HP q
  refine Eq.trans ?_ (smooth_words (cor (P q) k - cor (G (best G (P q))) k))
  rw [← hd]
  rfl

variable (U : IVec S1x2048 32) (u : Fin 2048 → Fin 512) (HU : ∀ q, U (ix2 0 q) = BitVec.ofNat 32 (u q).val)
include HU

/-- Row `o` of the picked corners. -/
theorem row_apply (o : ℕ) (k : Fin 4) (hk : k.val = o) (hs : S4x2048.Slices ![o, 0] S1x2048) (q : Fin 2048) :
    extractStridedSlice S1x2048 ![o, 0] (k0_pay27 (F := Ideal) rowNo U (k0_pay19 y) (k0_pay21 h) (k0_pay22 x w) (k0_pay23 y h)
      (k0_pay24 x w) k0_pay25) hs (ix2 0 q) = ((cor (G (u q)) k : ℝ) : EReal) :=
  (slice2_axis0_apply o _ hs 0 q k (by simp [hk])).trans (pick_apply HG U u HU k q)

theorem size_word (q : Fin 2048) :
    k0_pay29 (F := Ideal) rowNo U (k0_pay19 y) (k0_pay21 h) (k0_pay22 x w) (k0_pay23 y h) (k0_pay24 x w) k0_pay25 (ix2 0 q)
      = ((size (cor (G (u q))) : ℝ) : EReal) := by
  have e := row_apply HG HP U u HU
  unfold k0_pay29
  simp only [mulf_apply]
  show max (extractStridedSlice _ _ _ _ (ix2 0 q) - extractStridedSlice _ _ _ _ (ix2 0 q)) (-(extractStridedSlice _ _ _ _ (ix2 0 q) - extractStridedSlice _ _ _ _ (ix2 0 q)))
    * max (extractStridedSlice _ _ _ _ (ix2 0 q) - extractStridedSlice _ _ _ _ (ix2 0 q)) (-(extractStridedSlice _ _ _ _ (ix2 0 q) - extractStridedSlice _ _ _ _ (ix2 0 q))) = _
  rw [e 2 2 rfl, e 0 0 rfl, e 3 3 rfl, e 1 1 rfl, ← EReal.coe_sub, ← EReal.coe_sub, abs_coe, abs_coe, ← EReal.coe_mul]
  rfl

theorem inter_word (q : Fin 2048) :
    k0_pay30 (F := Ideal) (k0_pay7 X W) (k0_pay8 Y Z) (k0_pay9 X W) (k0_pay10 Y Z) rowNo U (k0_pay19 y) (k0_pay21 h) (k0_pay22 x w)
      (k0_pay23 y h) (k0_pay24 x w) k0_pay25 (ix2 0 q) = ((inter (cor (P q)) (cor (G (u q))) : ℝ) : EReal) := by
  have e := row_apply HG HP U u HU
  unfold k0_pay30
  simp only [mulf_apply]
  show max (min (k0_pay9 (F := Ideal) X W (ix2 0 q)) (extractStridedSlice _ _ _ _ (ix2 0 q)) - max (k0_pay7 (F := Ideal) X W (ix2 0 q)) (extractStridedSlice _ _ _ _ (ix2 0 q))) (Ideal.ofBits .f32 0x00000000#32)
    * max (min (k0_pay10 (F := Ideal) Y Z (ix2 0 q)) (extractStridedSlice _ _ _ _ (ix2 0 q)) - max (k0_pay8 (F := Ideal) Y Z (ix2 0 q)) (extractStridedSlice _ _ _ _ (ix2 0 q))) (Ideal.ofBits .f32 0x00000000#32) = _
  rw [e 2 2 rfl, e 0 0 rfl, e 3 3 rfl, e 1 1 rfl, wide_x1 HP, wide_x2 HP, wide_y1 HP, wide_y2 HP, Ideal.ofBits_zero_f32,
    show (0 : EReal) = ((0 : ℝ) : EReal) from rfl]
  simp only [← coe_max, ← coe_min, ← EReal.coe_sub, ← EReal.coe_mul]
  rfl

end Losses

/-- The repulsion loss the kernel adds, from the two rows of sizes and intersections. -/
theorem repel_word (G : Fin 512 → Box) (P : Fin 2048 → Box) (s i : FVec Ideal S1x2048 .f32)
    (hs : ∀ q, s (ix2 0 q) = ((size (cor (G (next G (P q)))) : ℝ) : EReal))
    (hi : ∀ q, i (ix2 0 q) = ((inter (cor (P q)) (cor (G (next G (P q)))) : ℝ) : EReal)) (acc : EReal) :
    k0_pay56 (F := Ideal) s i acc = acc + repel G P := by
  have key : k0_pay56 (F := Ideal) s i acc = acc + ∑ q : Fin 2048, pen (Ideal.div (i (ix2 0 q)) (s (ix2 0 q))) :=
    congrArg (acc + ·) (mass1_eq _)
  rw [key]
  refine congrArg (acc + ·) (Finset.sum_congr rfl fun q _ => ?_)
  rw [hs, hi]; rfl

end Cert.Loss
end
end
-- ==== Proof.Point.lean ====
/-
  One grid point's part of the pair term: the boxes of the point's own 512 rows against the boxes of every earlier block
  (a counted loop) and against themselves (the diagonal).
-/
module

public import proofs.«01_k».proof.Proof.Targets
public import proofs.«01_k».proof.Proof.Gen.KernelIdeal.Value
public import Idealize.ShloMosaic.Lib.Pipeline.ValueKit.Tiles

@[expose] public section

set_option maxRecDepth 16384

noncomputable section

namespace Cert.Loss

open Idealize.ShloMosaic Idealize.ShloMosaic.ValueIdx Cert.KernelIdeal Cert.KernelIdeal.Gen
open scoped BigOperators

/-- An array of `n` rows of four numbers, or its transpose, holds these boxes. -/
def Cols {n : ℕ} (x : FVec Ideal ⟨2, ![n, 4]⟩ .f32) (P : Fin n → Box) : Prop := ∀ p k, x (ix2 p k) = ((P p k : ℝ) : EReal)
def Rows {n : ℕ} (x : FVec Ideal ⟨2, ![4, n]⟩ .f32) (P : Fin n → Box) : Prop := ∀ p k, x (ix2 k p) = ((P p k : ℝ) : EReal)

/-- Block `t` of 512 of the predicted boxes. -/
def part (P : Fin 2048 → Box) (t : ℕ) (r : Fin 512) : Box := P ⟨(512 * t + r.val) % 2048, Nat.mod_lt _ (by norm_num)⟩

/-- The pair term of block `j` against block `t`, and of block `j` against itself. -/
def cross (P : Fin 2048 → Box) (j t : ℕ) : ℝ := ∑ r, ∑ l, plog flo (cor (part P t l)) (cor (part P j r))
def own (P : Fin 2048 → Box) (j : ℕ) : ℝ := ∑ r, ∑ l, tri (part P j) (part P j) r l

/-- A load of a whole buffer's contents through a rectangle, read at an index. -/
theorem load_apply {sp : Space} {S : Shape} (M : Memref sig .tc sp S .f32) (hM : M.IsWhole) (x : S.Idx → Elt Ideal .f32)
    (off size : Fin S.rank → ℕ) (inb : ∀ a, off a + size a ≤ S.size a) (j : (Rect.unit off size inb).shape.Idx) (i : S.Idx)
    (hi : ∀ a, (i a : ℕ) = off a + j a) :
    View.readAt (Elt Ideal) M.view (Rect.unit off size inb).toLoadRect (hM.unread x) j = x i := by
  rw [View.readAt_eq_ld, hM.read_unread]
  exact View.ld_unit_apply_of x off size inb j i hi

theorem col_load {n m : ℕ} (M : Memref sig .tc .vmem ⟨2, ![n, 4]⟩ .f32) (hM : M.IsWhole) (x : FVec Ideal ⟨2, ![n, 4]⟩ .f32)
    (P : Fin n → Box) (H : Cols x P) (k : Fin 4) (o : ℕ) (off : Fin 2 → ℕ) (ho : off = ![o, k.val])
    (inb : ∀ a, off a + (![m, 1] : Fin 2 → ℕ) a ≤ (⟨2, ![n, 4]⟩ : Shape).size a) (r : Fin m) (p : Fin n) (hp : p.val = o + r.val) :
    View.readAt (Elt Ideal) M.view (Rect.unit (s := ⟨2, ![n, 4]⟩) off ![m, 1] inb).toLoadRect (hM.unread x) (ix2 r 0) = ((P p k : ℝ) : EReal) := by
  subst ho
  refine (load_apply M hM x _ _ inb (ix2 r 0) (ix2 p k) fun a => ?_).trans (H p k)
  match a with
  | ⟨0, _⟩ => exact hp
  | ⟨1, _⟩ => rfl

theorem row_load {n m : ℕ} (M : Memref sig .tc .vmem ⟨2, ![4, n]⟩ .f32) (hM : M.IsWhole) (x : FVec Ideal ⟨2, ![4, n]⟩ .f32)
    (P : Fin n → Box) (H : Rows x P) (k : Fin 4) (o : ℕ) (off : Fin 2 → ℕ) (ho : off = ![k.val, o])
    (inb : ∀ a, off a + (![1, m] : Fin 2 → ℕ) a ≤ (⟨2, ![4, n]⟩ : Shape).size a) (r : Fin m) (p : Fin n) (hp : p.val = o + r.val) :
    View.readAt (Elt Ideal) M.view (Rect.unit (s := ⟨2, ![4, n]⟩) off ![1, m] inb).toLoadRect (hM.unread x) (ix2 0 r) = ((P p k : ℝ) : EReal) := by
  subst ho
  refine (load_apply M hM x _ _ inb (ix2 0 r) (ix2 k p) fun a => ?_).trans (H p k)
  match a with
  | ⟨0, _⟩ => rfl
  | ⟨1, _⟩ => exact hp

/-- The loop over earlier blocks has as many trips as the point's number; the loop after it has none. -/
theorem trips1 : ∀ i : grid0.Coords, (k0_t1_loop i).trips = (i 0).val := by decide +kernel
theorem trips2 : ∀ i : grid0.Coords, (k0_t2_loop i).trips = 0 := by decide +kernel
theorem coord_lt : ∀ i : grid0.Coords, (i 0).val < 4 := by decide +kernel

section Point
variable (c : Dev nD) (i : grid0.Coords) (arg1 : Memref sig .tc .vmem S512x4 .f32) (harg1 : arg1.IsWhole)
  (arg2 : Memref sig .tc .vmem S4x512 .f32) (harg2 : arg2.IsWhole) (arg3 : Memref sig .tc .vmem S2048x4 .f32) (harg3 : arg3.IsWhole)
  (arg4 : Memref sig .tc .vmem S4x2048 .f32) (harg4 : arg4.IsWhole) (arg5 : Memref sig .tc .smem S1x1 .f32) (harg5 : arg5.IsWhole)
  (arg6 : Memref sig .tc .smem S3 .f32) (harg6 : arg6.IsWhole)
  (x2 : FVec Ideal S2048x4 .f32) (x3 : FVec Ideal S4x2048 .f32) (P : Fin 2048 → Box)

/-- The point's four columns, and the four rows at a given offset. -/
abbrev ldX := View.readAt (Elt Ideal) arg3.view (Rect.unit (s := S2048x4) (k0_off1 i) S512x1.size (k0_off1_inb i)).toLoadRect (harg3.unread x2)
abbrev ldY := View.readAt (Elt Ideal) arg3.view (Rect.unit (s := S2048x4) (k0_off2 i) S512x1.size (k0_off2_inb i)).toLoadRect (harg3.unread x2)
abbrev ldW := View.readAt (Elt Ideal) arg3.view (Rect.unit (s := S2048x4) (k0_off3 i) S512x1.size (k0_off3_inb i)).toLoadRect (harg3.unread x2)
abbrev ldH := View.readAt (Elt Ideal) arg3.view (Rect.unit (s := S2048x4) (k0_off4 i) S512x1.size (k0_off4_inb i)).toLoadRect (harg3.unread x2)

theorem rows_point (H : Cols x2 P) : RowIs (ldX i arg3 harg3 x2) (ldY i arg3 harg3 x2) (ldW i arg3 harg3 x2) (ldH i arg3 harg3 x2) (part P (i 0).val) := by
  intro r
  have hi := coord_lt i
  have hr := r.isLt
  have hp : (512 * (i 0).val + r.val) % 2048 = 512 * (i 0).val + r.val := Nat.mod_eq_of_lt (by omega)
  exact ⟨col_load (m := 512) arg3 harg3 x2 P H 0 _ _ (k0_off1_eq i) _ r _ hp, col_load (m := 512) arg3 harg3 x2 P H 1 _ _ (k0_off2_eq i) _ r _ hp,
    col_load (m := 512) arg3 harg3 x2 P H 2 _ _ (k0_off3_eq i) _ r _ hp, col_load (m := 512) arg3 harg3 x2 P H 3 _ _ (k0_off4_eq i) _ r _ hp⟩

theorem lanes_at (H : Rows x3 P) (t : ℕ) (ht : t < 4) (o0 o1 o2 o3 : Fin 2 → ℕ) (e0 : o0 = ![0, 512 * t]) (e1 : o1 = ![1, 512 * t])
    (e2 : o2 = ![2, 512 * t]) (e3 : o3 = ![3, 512 * t]) (b0 : ∀ a, o0 a + S1x512.size a ≤ S4x2048.size a) (b1 : ∀ a, o1 a + S1x512.size a ≤ S4x2048.size a)
    (b2 : ∀ a, o2 a + S1x512.size a ≤ S4x2048.size a) (b3 : ∀ a, o3 a + S1x512.size a ≤ S4x2048.size a) :
    LaneIs (View.readAt (Elt Ideal) arg4.view (Rect.unit (s := S4x2048) o0 S1x512.size b0).toLoadRect (harg4.unread x3))
      (View.readAt (Elt Ideal) arg4.view (Rect.unit (s := S4x2048) o1 S1x512.size b1).toLoadRect (harg4.unread x3))
      (View.readAt (Elt Ideal) arg4.view (Rect.unit (s := S4x2048) o2 S1x512.size b2).toLoadRect (harg4.unread x3))
      (View.readAt (Elt Ideal) arg4.view (Rect.unit (s := S4x2048) o3 S1x512.size b3).toLoadRect (harg4.unread x3)) (part P t) := by
  intro r
  have hr := r.isLt
  have hp : (512 * t + r.val) % 2048 = 512 * t + r.val := Nat.mod_eq_of_lt (by omega)
  exact ⟨row_load (m := 512) arg4 harg4 x3 P H 0 _ _ e0 _ r _ hp, row_load (m := 512) arg4 harg4 x3 P H 1 _ _ e1 _ r _ hp,
    row_load (m := 512) arg4 harg4 x3 P H 2 _ _ e2 _ r _ hp, row_load (m := 512) arg4 harg4 x3 P H 3 _ _ e3 _ r _ hp⟩

variable (H2 : Cols x2 P) (H3 : Rows x3 P) (oP : ∀ p, Ordered (cor (P p)))
include H2 H3 oP

/-- One trip adds the block's pair term. -/
theorem trip_eq (k : Fin (k0_t1_loop i).trips) (acc : EReal) :
    (trip_k0_t1 (F := Ideal) Variants.none c none i arg1 harg1 arg2 harg2 arg3 harg3 arg4 harg4 arg5 harg5 arg6 harg6 (BitVec.ofNat 32 (i 0).val)
      (k0_pay59 (ldX i arg3 harg3 x2) (ldW i arg3 harg3 x2)) (k0_pay60 (ldY i arg3 harg3 x2) (ldH i arg3 harg3 x2))
      (k0_pay61 (ldX i arg3 harg3 x2) (ldY i arg3 harg3 x2) (ldW i arg3 harg3 x2) (ldH i arg3 harg3 x2))
      (k0_pay62 (ldX i arg3 harg3 x2) (ldW i arg3 harg3 x2)) (k0_pay63 (ldY i arg3 harg3 x2) (ldH i arg3 harg3 x2)) k0_pay64 (harg4.unread x3) k).1 acc
      = acc + ((cross P (i 0).val k.val : ℝ) : EReal) := by
  have hi := coord_lt i
  have hk : k.val < 4 := by exact (lt_of_lt_of_eq k.isLt (trips1 i)).trans hi
  have HL := lanes_at arg4 harg4 x3 P H3 k.val hk _ _ _ _ (k0_off5_eq i k) (k0_off6_eq i k) (k0_off7_eq i k) (k0_off8_eq i k)
    (k0_off5_inb i k) (k0_off6_inb i k) (k0_off7_inb i k) (k0_off8_inb i k)
  unfold trip_k0_t1
  exact block_eq (rows_point i arg3 harg3 x2 P H2) HL (fun _ => oP _) (fun _ => oP _) acc

/-- After `k` trips the loop carries the pair terms of the first `k` blocks. -/
theorem loop_eq (k : ℕ) (hk : k ≤ (k0_t1_loop i).trips) :
    st_k0_t1 (F := Ideal) Variants.none c none i arg1 harg1 arg2 harg2 arg3 harg3 arg4 harg4 arg5 harg5 arg6 harg6 (BitVec.ofNat 32 (i 0).val)
      (k0_pay59 (ldX i arg3 harg3 x2) (ldW i arg3 harg3 x2)) (k0_pay60 (ldY i arg3 harg3 x2) (ldH i arg3 harg3 x2))
      (k0_pay61 (ldX i arg3 harg3 x2) (ldY i arg3 harg3 x2) (ldW i arg3 harg3 x2) (ldH i arg3 harg3 x2))
      (k0_pay62 (ldX i arg3 harg3 x2) (ldW i arg3 harg3 x2)) (k0_pay63 (ldY i arg3 harg3 x2) (ldH i arg3 harg3 x2)) k0_pay64 (harg4.unread x3)
      (FloatOps.ofBits FTy.f32 0x00000000#32) k
      = ((∑ t ∈ Finset.range k, cross P (i 0).val t : ℝ) : EReal) := by
  induction k with
  | zero =>
    rw [st_k0_t1_zero, Finset.sum_range_zero]
    exact Ideal.ofBits_zero_f32
  | succ k ih =>
    refine (st_k0_t1_succ (F := Ideal) Variants.none c none i arg1 harg1 arg2 harg2 arg3 harg3 arg4 harg4 arg5 harg5 arg6 harg6 _ _ _ _ _ _ _ _ _ ⟨k, hk⟩).trans ?_
    refine (trip_eq c i arg1 harg1 arg2 harg2 arg3 harg3 arg4 harg4 arg5 harg5 arg6 harg6 x2 x3 P H2 H3 oP ⟨k, hk⟩ _).trans ?_
    rw [ih (by omega), Finset.sum_range_succ, EReal.coe_add]

/-- The two loops together carry the pair terms of all the earlier blocks. -/
theorem loops_eq (v57 : BitVec 32) :
    st_k0_t2 (F := Ideal) Variants.none c none i arg1 harg1 arg2 harg2 arg3 harg3 arg4 harg4 arg5 harg5 arg6 harg6 (BitVec.ofNat 32 (i 0).val)
      (k0_pay59 (ldX i arg3 harg3 x2) (ldW i arg3 harg3 x2)) (k0_pay60 (ldY i arg3 harg3 x2) (ldH i arg3 harg3 x2))
      (k0_pay61 (ldX i arg3 harg3 x2) (ldY i arg3 harg3 x2) (ldW i arg3 harg3 x2) (ldH i arg3 harg3 x2))
      (k0_pay62 (ldX i arg3 harg3 x2) (ldW i arg3 harg3 x2)) (k0_pay63 (ldY i arg3 harg3 x2) (ldH i arg3 harg3 x2)) k0_pay64 v57 (harg4.unread x3)
      (st_k0_t1 (F := Ideal) Variants.none c none i arg1 harg1 arg2 harg2 arg3 harg3 arg4 harg4 arg5 harg5 arg6 harg6 (BitVec.ofNat 32 (i 0).val)
        (k0_pay59 (ldX i arg3 harg3 x2) (ldW i arg3 harg3 x2)) (k0_pay60 (ldY i arg3 harg3 x2) (ldH i arg3 harg3 x2))
        (k0_pay61 (ldX i arg3 harg3 x2) (ldY i arg3 harg3 x2) (ldW i arg3 harg3 x2) (ldH i arg3 harg3 x2))
        (k0_pay62 (ldX i arg3 harg3 x2) (ldW i arg3 harg3 x2)) (k0_pay63 (ldY i arg3 harg3 x2) (ldH i arg3 harg3 x2)) k0_pay64 (harg4.unread x3)
        (FloatOps.ofBits FTy.f32 0x00000000#32) (Scf.trips (k0_t1_loop i).lb (k0_t1_loop i).ub (k0_t1_loop i).st))
      (Scf.trips (k0_t2_loop i).lb (k0_t2_loop i).ub (k0_t2_loop i).st)
      = ((∑ t ∈ Finset.range (i 0).val, cross P (i 0).val t : ℝ) : EReal) := by
  rw [show Scf.trips (k0_t2_loop i).lb (k0_t2_loop i).ub (k0_t2_loop i).st = 0 from trips2 i, st_k0_t2_zero,
    show Scf.trips (k0_t1_loop i).lb (k0_t1_loop i).ub (k0_t1_loop i).st = (i 0).val from trips1 i]
  exact loop_eq c i arg1 harg1 arg2 harg2 arg3 harg3 arg4 harg4 arg5 harg5 arg6 harg6 x2 x3 P H2 H3 oP (i 0).val (trips1 i).ge

end Point

end Cert.Loss
end
end
-- ==== Proof.Pairs.lean ====
/-
  The four points' pair terms together are the sum over all pairs of distinct predicted boxes.
-/
module

public import proofs.«01_k».proof.Proof.Point

@[expose] public section

noncomputable section

namespace Cert.Loss

open scoped BigOperators

/-- The pair term of two places: the logarithm of one minus their overlap ratio, floored, for `a < b`; else zero. -/
def place (P : Fin 2048 → Box) (a b : Fin 2048) : ℝ := if a < b then plog flo (cor (P a)) (cor (P b)) else 0

/-- The sum over all the pairs. -/
def pairs (P : Fin 2048 → Box) : ℝ := ∑ a, ∑ b, place P a b

/-- Place `r` of block `t`. -/
def at' (t : ℕ) (r : Fin 512) : Fin 2048 := ⟨(512 * t + r.val) % 2048, Nat.mod_lt _ (by norm_num)⟩

/-- A sum over the 2048 places is a sum over four blocks of 512. -/
theorem sum_blocks (g : Fin 2048 → ℝ) : ∑ p, g p = ∑ t ∈ Finset.range 4, ∑ r, g (at' t r) := by
  rw [← Fin.sum_univ_eq_sum_range (fun t => ∑ r, g (at' t r)) 4,
    ← (finProdFinEquiv (m := 4) (n := 512)).sum_comp g, Fintype.sum_prod_type]
  refine Finset.sum_congr rfl fun t _ => Finset.sum_congr rfl fun r _ => congrArg g (Fin.ext ?_)
  have ht := t.isLt
  have hr := r.isLt
  show r.val + 512 * t.val = (512 * t.val + r.val) % 2048
  omega

/-- A block against a block: all the pairs, those of the triangle, or none. -/
theorem block_sum (P : Fin 2048 → Box) (j t : ℕ) (hj : j < 4) (ht : t < 4) :
    ∑ r, ∑ l, place P (at' t l) (at' j r) = if t < j then cross P j t else if t = j then own P j else 0 := by
  have key : ∀ l r : Fin 512, (at' t l < at' j r) ↔ (t < j ∨ (t = j ∧ l < r)) := fun l r => by
    have hl := l.isLt
    have hr := r.isLt
    show (512 * t + l.val) % 2048 < (512 * j + r.val) % 2048 ↔ (t < j ∨ (t = j ∧ l.val < r.val))
    omega
  simp only [place, key]
  split_ifs with h1 h2
  · simp only [h1, true_or, if_true]; rfl
  · subst h2
    simp only [lt_irrefl, false_or, true_and]
    refine Finset.sum_congr rfl fun r _ => Finset.sum_congr rfl fun l _ => ?_
    unfold tri
    by_cases h : l < r
    · rw [if_pos h, if_neg (not_le.mpr h)]; rfl
    · rw [if_neg h, if_pos (not_lt.mp h)]
  · simp only [h1, h2, false_and, or_self, if_false, Finset.sum_const_zero]

/-- The pair terms of the four points are the sum over all pairs. -/
theorem added_sum (P : Fin 2048 → Box) :
    ∑ j ∈ Finset.range 4, ((∑ t ∈ Finset.range j, cross P j t) + own P j) = pairs P := by
  unfold pairs
  rw [Finset.sum_comm, sum_blocks fun b => ∑ a, place P a b]
  refine Finset.sum_congr rfl fun j hj => ?_
  have hj' := Finset.mem_range.mp hj
  have e : ∑ r, ∑ a, place P a (at' j r) = ∑ t ∈ Finset.range 4, ∑ r, ∑ l, place P (at' t l) (at' j r) := by
    exact (Finset.sum_congr rfl fun r _ => sum_blocks fun a => place P a (at' j r)).trans Finset.sum_comm
  rw [e, Finset.sum_congr rfl fun t ht => block_sum P j t hj' (Finset.mem_range.mp ht),
    ← Finset.sum_subset (Finset.range_mono (show j + 1 ≤ 4 by omega)), Finset.sum_range_succ]
  · refine congrArg₂ (· + ·) (Finset.sum_congr rfl fun t ht => ?_) ?_
    · exact (if_pos (Finset.mem_range.mp ht)).symm
    · rw [if_neg (lt_irrefl j), if_pos rfl]
  · intro t _ ht
    have ht' : ¬ t < j + 1 := fun h => ht (Finset.mem_range.mpr h)
    rw [if_neg (by omega), if_neg (by omega)]

end Cert.Loss
end
end
-- ==== Proof.Acc.lean ====
/-
  What each kind of grid point leaves in the three-word accumulator: the first point sets it, the later ones add their pair
  terms to its last word, and the last one also combines the three words into the result.
-/
module

public import proofs.«01_k».proof.Proof.Point
public import Idealize.ShloMosaic.Lib.CellWrites
public import Idealize.ShloMosaic.Lib.Tactic

@[expose] public section

set_option maxRecDepth 16384

noncomputable section

namespace Cert.Loss

open Idealize.ShloMosaic Idealize.ShloMosaic.ValueIdx Cert.KernelIdeal Cert.KernelIdeal.Gen
open scoped BigOperators

/-- The pair terms of point `j`: its block against every earlier block, and against itself. -/
def added (P : Fin 2048 → Box) (j : ℕ) : ℝ := (∑ t ∈ Finset.range j, cross P j t) + own P j

section Case
variable (c : Dev nD) (i : grid0.Coords) (arg1 : Memref sig .tc .vmem S512x4 .f32) (harg1 : arg1.IsWhole)
  (arg2 : Memref sig .tc .vmem S4x512 .f32) (harg2 : arg2.IsWhole) (arg3 : Memref sig .tc .vmem S2048x4 .f32) (harg3 : arg3.IsWhole)
  (arg4 : Memref sig .tc .vmem S4x2048 .f32) (harg4 : arg4.IsWhole) (arg5 : Memref sig .tc .smem S1x1 .f32) (harg5 : arg5.IsWhole)
  (arg6 : Memref sig .tc .smem S3 .f32) (harg6 : arg6.IsWhole)
  (x0 : FVec Ideal S512x4 .f32) (x1 : FVec Ideal S4x512 .f32) (x2 : FVec Ideal S2048x4 .f32) (x3 : FVec Ideal S4x2048 .f32) (xs0 : FVec Ideal S3 .f32)
  (P : Fin 2048 → Box) (H2 : Cols x2 P) (H3 : Rows x3 P) (oP : ∀ p, Ordered (cor (P p)))

/-- The four rows at the point's own offset. -/
abbrev ltX := View.readAt (Elt Ideal) arg4.view (Rect.unit (s := S4x2048) (k0_off13 i) S1x512.size (k0_off13_inb i)).toLoadRect (harg4.unread x3)
abbrev ltY := View.readAt (Elt Ideal) arg4.view (Rect.unit (s := S4x2048) (k0_off14 i) S1x512.size (k0_off14_inb i)).toLoadRect (harg4.unread x3)
abbrev ltW := View.readAt (Elt Ideal) arg4.view (Rect.unit (s := S4x2048) (k0_off15 i) S1x512.size (k0_off15_inb i)).toLoadRect (harg4.unread x3)
abbrev ltH := View.readAt (Elt Ideal) arg4.view (Rect.unit (s := S4x2048) (k0_off16 i) S1x512.size (k0_off16_inb i)).toLoadRect (harg4.unread x3)

include H2 H3 oP

/-- The word a point stores last: what the third word held, and the point's pair terms. -/
theorem point_word (v57 : BitVec 32) (v159 : EReal) :
    k0_pay1 (F := Ideal) (st_k0_t2 (F := Ideal) Variants.none c none i arg1 harg1 arg2 harg2 arg3 harg3 arg4 harg4 arg5 harg5 arg6 harg6 (BitVec.ofNat 32 (i 0).val)
        (k0_pay59 (ldX i arg3 harg3 x2) (ldW i arg3 harg3 x2)) (k0_pay60 (ldY i arg3 harg3 x2) (ldH i arg3 harg3 x2))
        (k0_pay61 (ldX i arg3 harg3 x2) (ldY i arg3 harg3 x2) (ldW i arg3 harg3 x2) (ldH i arg3 harg3 x2))
        (k0_pay62 (ldX i arg3 harg3 x2) (ldW i arg3 harg3 x2)) (k0_pay63 (ldY i arg3 harg3 x2) (ldH i arg3 harg3 x2)) k0_pay64 v57 (harg4.unread x3)
        (st_k0_t1 (F := Ideal) Variants.none c none i arg1 harg1 arg2 harg2 arg3 harg3 arg4 harg4 arg5 harg5 arg6 harg6 (BitVec.ofNat 32 (i 0).val)
          (k0_pay59 (ldX i arg3 harg3 x2) (ldW i arg3 harg3 x2)) (k0_pay60 (ldY i arg3 harg3 x2) (ldH i arg3 harg3 x2))
          (k0_pay61 (ldX i arg3 harg3 x2) (ldY i arg3 harg3 x2) (ldW i arg3 harg3 x2) (ldH i arg3 harg3 x2))
          (k0_pay62 (ldX i arg3 harg3 x2) (ldW i arg3 harg3 x2)) (k0_pay63 (ldY i arg3 harg3 x2) (ldH i arg3 harg3 x2)) k0_pay64 (harg4.unread x3)
          (FloatOps.ofBits FTy.f32 0x00000000#32) (Scf.trips (k0_t1_loop i).lb (k0_t1_loop i).ub (k0_t1_loop i).st))
        (Scf.trips (k0_t2_loop i).lb (k0_t2_loop i).ub (k0_t2_loop i).st))
      (k0_pay82 (k0_pay62 (ldX i arg3 harg3 x2) (ldW i arg3 harg3 x2)) (k0_pay63 (ldY i arg3 harg3 x2) (ldH i arg3 harg3 x2))
        (k0_pay65 (k0_pay59 (ldX i arg3 harg3 x2) (ldW i arg3 harg3 x2)) k0_pay64) (k0_pay66 (k0_pay60 (ldY i arg3 harg3 x2) (ldH i arg3 harg3 x2)))
        (k0_pay67 (k0_pay61 (ldX i arg3 harg3 x2) (ldY i arg3 harg3 x2) (ldW i arg3 harg3 x2) (ldH i arg3 harg3 x2))) k0_pay70
        (k0_pay72 (ltY i arg4 harg4 x3)) (k0_pay74 (ltH i arg4 harg4 x3)) (k0_pay75 (ltX i arg4 harg4 x3) (ltW i arg4 harg4 x3))
        (k0_pay76 (ltY i arg4 harg4 x3) (ltH i arg4 harg4 x3)) (k0_pay77 (ltX i arg4 harg4 x3) (ltW i arg4 harg4 x3)) k0_pay78)
      (k0_pay83 (k0_pay62 (ldX i arg3 harg3 x2) (ldW i arg3 harg3 x2)) (k0_pay63 (ldY i arg3 harg3 x2) (ldH i arg3 harg3 x2))
        (k0_pay65 (k0_pay59 (ldX i arg3 harg3 x2) (ldW i arg3 harg3 x2)) k0_pay64) (k0_pay66 (k0_pay60 (ldY i arg3 harg3 x2) (ldH i arg3 harg3 x2)))
        (k0_pay67 (k0_pay61 (ldX i arg3 harg3 x2) (ldY i arg3 harg3 x2) (ldW i arg3 harg3 x2) (ldH i arg3 harg3 x2))) k0_pay70
        (k0_pay72 (ltY i arg4 harg4 x3)) (k0_pay74 (ltH i arg4 harg4 x3)) (k0_pay75 (ltX i arg4 harg4 x3) (ltW i arg4 harg4 x3))
        (k0_pay76 (ltY i arg4 harg4 x3) (ltH i arg4 harg4 x3)) (k0_pay77 (ltX i arg4 harg4 x3) (ltW i arg4 harg4 x3)) k0_pay78)
      (k0_pay84 (k0_pay62 (ldX i arg3 harg3 x2) (ldW i arg3 harg3 x2)) (k0_pay63 (ldY i arg3 harg3 x2) (ldH i arg3 harg3 x2))
        (k0_pay65 (k0_pay59 (ldX i arg3 harg3 x2) (ldW i arg3 harg3 x2)) k0_pay64) (k0_pay66 (k0_pay60 (ldY i arg3 harg3 x2) (ldH i arg3 harg3 x2)))
        (k0_pay67 (k0_pay61 (ldX i arg3 harg3 x2) (ldY i arg3 harg3 x2) (ldW i arg3 harg3 x2) (ldH i arg3 harg3 x2))) k0_pay70
        (k0_pay72 (ltY i arg4 harg4 x3)) (k0_pay74 (ltH i arg4 harg4 x3)) (k0_pay75 (ltX i arg4 harg4 x3) (ltW i arg4 harg4 x3))
        (k0_pay76 (ltY i arg4 harg4 x3) (ltH i arg4 harg4 x3)) (k0_pay77 (ltX i arg4 harg4 x3) (ltW i arg4 harg4 x3)) k0_pay78) v159
      = v159 + ((added P (i 0).val : ℝ) : EReal) := by
  rw [loops_eq c i arg1 harg1 arg2 harg2 arg3 harg3 arg4 harg4 arg5 harg5 arg6 harg6 x2 x3 P H2 H3 oP]
  have HL := lanes_at arg4 harg4 x3 P H3 (i 0).val (coord_lt i) _ _ _ _ (k0_off13_eq i) (k0_off14_eq i) (k0_off15_eq i) (k0_off16_eq i)
    (k0_off13_inb i) (k0_off14_inb i) (k0_off15_inb i) (k0_off16_inb i)
  refine (diag_eq (rows_point i arg3 harg3 x2 P H2) HL (fun _ => oP _) (fun _ => oP _) _ _).trans ?_
  rw [← EReal.coe_add]
  rfl

/-- A middle point adds its pair terms to the third word. -/
theorem after_B (hc0 : ¬cond0_0 i) (hc1 : ¬cond0_1 i) (hc2 : ¬cond0_2 i) (k : Fin 3) :
    sout0_B_0 (F := Ideal) c i arg1 harg1 arg2 harg2 arg3 harg3 arg4 harg4 arg5 harg5 arg6 harg6 hc0 hc1 hc2 x0 x1 x2 x3 xs0 (ix1 k)
      = if k.val = 2 then xs0 (ix1 2) + ((added P (i 0).val : ℝ) : EReal) else xs0 (ix1 k) := by
  unfold sout0_B_0 kernelRun0_B
  dsimp only
  sl_unfold_words
  rw [View.read_writes_cons_cell, View.writes_nil, harg6.read_unread]
  refine if_congr Iff.rfl ?_ rfl
  refine (point_word c i arg1 harg1 arg2 harg2 arg3 harg3 arg4 harg4 arg5 harg5 arg6 harg6 x2 x3 P H2 H3 oP _ _).trans ?_
  exact congrArg (· + ((added P (i 0).val : ℝ) : EReal)) (load_apply arg6 harg6 xs0 ![2] ![1] _ _ (ix1 2) (fun a => by fin_cases a; rfl))

/-- The last point's result: the three words, the third with the point's pair terms, combined. -/
theorem out_C (hc0 : ¬cond0_0 i) (hc1 : ¬cond0_1 i) (hc2 : cond0_2 i) :
    out0_C_4 (F := Ideal) c i arg1 harg1 arg2 harg2 arg3 harg3 arg4 harg4 arg5 harg5 arg6 harg6 hc0 hc1 hc2 x0 x1 x2 x3 xs0
      = fun _ => k0_pay2 (F := Ideal) (xs0 (ix1 2) + ((added P (i 0).val : ℝ) : EReal)) (xs0 (ix1 0)) (xs0 (ix1 1)) := by
  unfold out0_C_4
  rw [View.read_writes_eq_canon _ _ _ (cover0_C_4 (F := Ideal) c i arg1 harg1 arg2 harg2 arg3 harg3 arg4 harg4 arg5 harg5 arg6 harg6 hc0 hc1 hc2 x0 x1 x2 x3 xs0)]
  unfold kernelRun0_C
  dsimp only
  sl_unfold_words
  rw [View.canon_unit_zero (S := S1x1) (funext fun a => by fin_cases a <;> rfl)]
  funext _
  refine congr (congr (congrArg (k0_pay2 (F := Ideal)) ?_) ?_) ?_
  · refine (point_word c i arg1 harg1 arg2 harg2 arg3 harg3 arg4 harg4 arg5 harg5 arg6 harg6 x2 x3 P H2 H3 oP _ _).trans ?_
    exact congrArg (· + ((added P (i 0).val : ℝ) : EReal)) (load_apply arg6 harg6 xs0 ![2] ![1] _ _ (ix1 2) (fun a => by fin_cases a; rfl))
  · exact load_apply arg6 harg6 xs0 ![0] ![1] _ _ (ix1 0) (fun a => by fin_cases a; rfl)
  · exact load_apply arg6 harg6 xs0 ![1] ![1] _ _ (ix1 1) (fun a => by fin_cases a; rfl)

omit H2 H3 oP in
/-- The four columns of the first input, and the four rows of a transposed one, read whole. -/
theorem rows_whole (G : Fin 512 → Box) (H0 : Cols x0 G) :
    RowIs (View.readAt (Elt Ideal) arg1.view (Rect.unit (s := S512x4) ![0, 0] S512x1.size inb_S512x4_S512x1_0_0).toLoadRect (harg1.unread x0))
      (View.readAt (Elt Ideal) arg1.view (Rect.unit (s := S512x4) ![0, 1] S512x1.size inb_S512x4_S512x1_0_1).toLoadRect (harg1.unread x0))
      (View.readAt (Elt Ideal) arg1.view (Rect.unit (s := S512x4) ![0, 2] S512x1.size inb_S512x4_S512x1_0_2).toLoadRect (harg1.unread x0))
      (View.readAt (Elt Ideal) arg1.view (Rect.unit (s := S512x4) ![0, 3] S512x1.size inb_S512x4_S512x1_0_3).toLoadRect (harg1.unread x0)) G := fun r =>
  ⟨col_load (m := 512) arg1 harg1 x0 G H0 0 0 _ rfl _ r r (Nat.zero_add _).symm, col_load (m := 512) arg1 harg1 x0 G H0 1 0 _ rfl _ r r (Nat.zero_add _).symm,
    col_load (m := 512) arg1 harg1 x0 G H0 2 0 _ rfl _ r r (Nat.zero_add _).symm, col_load (m := 512) arg1 harg1 x0 G H0 3 0 _ rfl _ r r (Nat.zero_add _).symm⟩

omit H2 H3 oP in
theorem lanes_whole {n : ℕ} (M : Memref sig .tc .vmem ⟨2, ![4, n]⟩ .f32) (hM : M.IsWhole) (x : FVec Ideal ⟨2, ![4, n]⟩ .f32)
    (Q : Fin n → Box) (H : Rows x Q) (b0 : ∀ a, (![0, 0] : Fin 2 → ℕ) a + (![1, n] : Fin 2 → ℕ) a ≤ (⟨2, ![4, n]⟩ : Shape).size a)
    (b1 : ∀ a, (![1, 0] : Fin 2 → ℕ) a + (![1, n] : Fin 2 → ℕ) a ≤ (⟨2, ![4, n]⟩ : Shape).size a)
    (b2 : ∀ a, (![2, 0] : Fin 2 → ℕ) a + (![1, n] : Fin 2 → ℕ) a ≤ (⟨2, ![4, n]⟩ : Shape).size a)
    (b3 : ∀ a, (![3, 0] : Fin 2 → ℕ) a + (![1, n] : Fin 2 → ℕ) a ≤ (⟨2, ![4, n]⟩ : Shape).size a) :
    LaneIs (n := n) (View.readAt (Elt Ideal) M.view (Rect.unit (s := ⟨2, ![4, n]⟩) ![0, 0] ![1, n] b0).toLoadRect (hM.unread x))
      (View.readAt (Elt Ideal) M.view (Rect.unit (s := ⟨2, ![4, n]⟩) ![1, 0] ![1, n] b1).toLoadRect (hM.unread x))
      (View.readAt (Elt Ideal) M.view (Rect.unit (s := ⟨2, ![4, n]⟩) ![2, 0] ![1, n] b2).toLoadRect (hM.unread x))
      (View.readAt (Elt Ideal) M.view (Rect.unit (s := ⟨2, ![4, n]⟩) ![3, 0] ![1, n] b3).toLoadRect (hM.unread x)) Q := fun r =>
  ⟨row_load (m := n) M hM x Q H 0 0 _ rfl _ r r (Nat.zero_add _).symm, row_load (m := n) M hM x Q H 1 0 _ rfl _ r r (Nat.zero_add _).symm,
    row_load (m := n) M hM x Q H 2 0 _ rfl _ r r (Nat.zero_add _).symm, row_load (m := n) M hM x Q H 3 0 _ rfl _ r r (Nat.zero_add _).symm⟩

variable (G : Fin 512 → Box) (H0 : Cols x0 G) (H1 : Rows x1 G) (oG : ∀ p, Ordered (cor (G p)))
include H0 H1 oG

/-- The first point sets the three words: the attraction sum, the repulsion sum, and its own pair terms. -/
theorem after_A (hc0 : cond0_0 i) (hc1 : cond0_1 i) (hc2 : ¬cond0_2 i) (k : Fin 3) :
    sout0_A_0 (F := Ideal) c i arg1 harg1 arg2 harg2 arg3 harg3 arg4 harg4 arg5 harg5 arg6 harg6 hc0 hc1 hc2 x0 x1 x2 x3 (ix1 k)
      = if k.val = 2 then ((added P (i 0).val : ℝ) : EReal) else if k.val = 1 then repel G P else ((attr G P : ℝ) : EReal) := by
  unfold sout0_A_0 kernelRun0_A
  dsimp only
  sl_unfold_words
  rw [View.read_writes_cons_cell, View.read_writes_cons_cell, View.read_writes_cons_cell]
  have HP := lanes_whole (n := 2048) arg4 harg4 x3 P H3 inb_S4x2048_S1x2048_0_0 inb_S4x2048_S1x2048_1_0 inb_S4x2048_S1x2048_2_0 inb_S4x2048_S1x2048_3_0
  have HL := lanes_whole (n := 512) arg2 harg2 x1 G H1 inb_S4x512_S1x512_0_0 inb_S4x512_S1x512_1_0 inb_S4x512_S1x512_2_0 inb_S4x512_S1x512_3_0
  have HG := rows_whole arg1 harg1 x0 G H0
  have HT := clipped_apply HG HP oG oP
  have h0 : (FloatOps.ofBits (F := Ideal) FTy.f32 0x00000000#32 : EReal) = 0 := Ideal.ofBits_zero_f32
  have hk := k.isLt
  refine ite_congr rfl (fun _ => ?_) fun e2 => ite_congr rfl (fun _ => ?_) fun e1 => (if_pos ?_).trans ?_
  · refine (point_word c i arg1 harg1 arg2 harg2 arg3 harg3 arg4 harg4 arg5 harg5 arg6 harg6 x2 x3 P H2 H3 oP _ _).trans ?_
    exact (congrArg (· + ((added P (i 0).val : ℝ) : EReal)) h0).trans (zero_add _)
  · refine (repel_word G P _ _ (size_word HL HP _ _ (next_word HT)) (inter_word HL HP _ _ (next_word HT)) _).trans ?_
    exact (congrArg (· + repel G P) h0).trans (zero_add _)
  · have e1' : k.val ≠ 1 := e1
    have e2' : k.val ≠ 2 := e2
    show k.val = 0
    omega
  · exact (congrArg₂ (fun a b : EReal => a + b) h0 (attr_word HL HP _ (best_word HT))).trans (zero_add _)

end Case

end Cert.Loss
end
end
-- ==== Proof.Result.lean ====
/-
  What the kernel's result array holds: the attraction sum, the repulsion sum and the pair terms of all four points, combined.
-/
module

public import proofs.«01_k».proof.Proof.Acc
public import Idealize.ShloMosaic.Lib.Pipeline.Value
public import Idealize.ShloMosaic.Lib.StableHlo.Run

@[expose] public section

set_option maxRecDepth 16384

noncomputable section

namespace Cert.Loss

open Idealize.ShloMosaic Idealize.ShloMosaic.ValueIdx Idealize.ShloMosaic.TcCoe Idealize.SL.Sem Cert.KernelIdeal Cert.KernelIdeal.Gen
open scoped BigOperators

variable (m : (ℓ : Loc nD τ sig) → Buf (Elt Ideal) ℓ) (ρ : Dev nD → PrngReg) (c : Dev nD)

theorem coords_val : ∀ t : Fin grid0.N, (grid0.coords t 0).val = t.val := by decide +kernel

theorem at0 : ∀ (t : Fin grid0.N) (a : Fin 2), win0_0.index t a = 0 := by decide +kernel
theorem at1 : ∀ (t : Fin grid0.N) (a : Fin 2), win0_1.index t a = 0 := by decide +kernel
theorem at2 : ∀ (t : Fin grid0.N) (a : Fin 2), win0_2.index t a = 0 := by decide +kernel
theorem at3 : ∀ (t : Fin grid0.N) (a : Fin 2), win0_3.index t a = 0 := by decide +kernel
theorem at4 : ∀ (t : Fin grid0.N) (a : Fin 2), win0_4.index t a = 0 := by decide +kernel

/-- The two transposed arrays the region finds. -/
theorem V_main_v0 : V m c main_v0 = transpose S4x512 [1, 0] (m ((c : Thread nD τ).loc main_arg0)) transposes_S512x4_S4x512_1_0 := by
  simp only [V, StableHlo.after_cons, StableHlo.after_nil]
  rw [StableHlo.unary_result_ne _ _ _ _ _ _ (by decide), StableHlo.unary_result]

theorem V_main_v1 : V m c main_v1 = transpose S4x2048 [1, 0] (m ((c : Thread nD τ).loc main_arg1)) transposes_S2048x4_S4x2048_1_0 := by
  simp only [V, StableHlo.after_cons, StableHlo.after_nil]
  rw [StableHlo.unary_result, StableHlo.unary_result_ne _ _ _ _ _ _ (by decide)]

theorem blk0 (t : Fin cfg0.N) : (iblk m c 0 t : Vec Ideal S512x4 .f32) = m ((c : Thread nD τ).loc main_arg0) := by
  have hz : (fun a => win0_0.index t a * main_arg0.ty.shape.size a) = fun _ => 0 := funext fun a => by rw [at0]; exact Nat.zero_mul _
  exact (Memref.read_access_unit_zero (Elt Ideal) main_arg0 hz (fun a => by rw [congrFun hz a]; simp) (V m c main_arg0)).trans (V_main_arg0 m c)

theorem blk1 (t : Fin cfg0.N) : (iblk m c 1 t : Vec Ideal S4x512 .f32) = V m c main_v0 := by
  have hz : (fun a => win0_1.index t a * main_v0.ty.shape.size a) = fun _ => 0 := funext fun a => by rw [at1]; exact Nat.zero_mul _
  exact Memref.read_access_unit_zero (Elt Ideal) main_v0 hz (fun a => by rw [congrFun hz a]; simp) (V m c main_v0)

theorem blk2 (t : Fin cfg0.N) : (iblk m c 2 t : Vec Ideal S2048x4 .f32) = m ((c : Thread nD τ).loc main_arg1) := by
  have hz : (fun a => win0_2.index t a * main_arg1.ty.shape.size a) = fun _ => 0 := funext fun a => by rw [at2]; exact Nat.zero_mul _
  exact (Memref.read_access_unit_zero (Elt Ideal) main_arg1 hz (fun a => by rw [congrFun hz a]; simp) (V m c main_arg1)).trans (V_main_arg1 m c)

theorem blk3 (t : Fin cfg0.N) : (iblk m c 3 t : Vec Ideal S4x2048 .f32) = V m c main_v1 := by
  have hz : (fun a => win0_3.index t a * main_v1.ty.shape.size a) = fun _ => 0 := funext fun a => by rw [at3]; exact Nat.zero_mul _
  exact Memref.read_access_unit_zero (Elt Ideal) main_v1 hz (fun a => by rw [congrFun hz a]; simp) (V m c main_v1)

variable (G : Fin 512 → Box) (P : Fin 2048 → Box) (HG : Cols (m ((c : Thread nD τ).loc main_arg0)) G) (HP : Cols (m ((c : Thread nD τ).loc main_arg1)) P)
  (oG : ∀ p, Ordered (cor (G p))) (oP : ∀ p, Ordered (cor (P p)))
include HG HP

theorem cols0 (t : Fin cfg0.N) : Cols (iblk m c 0 t : Vec Ideal S512x4 .f32) G := by rw [blk0]; exact HG
theorem cols2 (t : Fin cfg0.N) : Cols (iblk m c 2 t : Vec Ideal S2048x4 .f32) P := by rw [blk2]; exact HP
theorem rows1 (t : Fin cfg0.N) : Rows (iblk m c 1 t : Vec Ideal S4x512 .f32) G := fun p k => by
  rw [blk1, V_main_v0, transpose_ix2_apply]; exact HG p k
theorem rows3 (t : Fin cfg0.N) : Rows (iblk m c 3 t : Vec Ideal S4x2048 .f32) P := fun p k => by
  rw [blk3, V_main_v1, transpose_ix2_apply]; exact HP p k

include oG oP

/-- The three words after point `n`, for the points before the last. -/
theorem words (n : ℕ) (hn : n < cfg0.N) (h3 : n < 3) (k : Fin 3) : (outsAt0 m c n hn).2 (ix1 k)
    = if k.val = 2 then ((∑ j ∈ Finset.range (n + 1), added P j : ℝ) : EReal) else if k.val = 1 then repel G P else ((attr G P : ℝ) : EReal) := by
  induction n generalizing k with
  | zero =>
    rw [outsAt0_A m c ⟨0, hn⟩ rfl rfl (by norm_num)]
    dsimp only
    refine (after_A c _ _ _ _ _ _ _ _ _ _ _ _ _ _ _ _ _ P (cols2 m c G P HG HP _) (rows3 m c G P HG HP _) oP G (cols0 m c G P HG HP _)
      (rows1 m c G P HG HP _) oG _ _ _ k).trans ?_
    rw [coords_val, Finset.sum_range_one]
  | succ n ih =>
    rw [outsAt0_B m c ⟨n + 1, hn⟩ (by dsimp only; omega) (by dsimp only; omega) (by dsimp only; omega)]
    dsimp only
    refine (after_B c _ _ _ _ _ _ _ _ _ _ _ _ _ _ _ _ _ _ P (cols2 m c G P HG HP _) (rows3 m c G P HG HP _) oP _ _ _ k).trans ?_
    have e := ih (Nat.lt_of_succ_lt hn) (by omega)
    rw [coords_val]
    split_ifs with h2 h1
    · refine (congrArg (· + ((added P (n + 1) : ℝ) : EReal)) ((e 2).trans (if_pos rfl))).trans ?_
      rw [← EReal.coe_add, ← Finset.sum_range_succ]
    · exact (e k).trans ((if_neg h2).trans (if_pos h1))
    · exact (e k).trans ((if_neg h2).trans (if_neg h1))

/-- The result array: one entry, of the two sums and all the pair terms. -/
abbrev kernelValue (G : Fin 512 → Box) (P : Fin 2048 → Box) : EReal :=
  k0_pay2 (F := Ideal) (((∑ j ∈ Finset.range 4, added P j : ℝ) : EReal)) ((attr G P : ℝ) : EReal) (repel G P)

abbrev kernelArray (G : Fin 512 → Box) (P : Fin 2048 → Box) : Buf (Elt Ideal) ((c : Thread nD τ).loc main_v2) := fun _ => kernelValue G P

theorem flushed_eq (t : Fin cfg0.N) (hf : (cfg0.win 4).flush t = true) :
    (dats m 0 c).flushed 4 t = ((cfg0.win 4).blk t).view.read (Elt Ideal) (kernelArray c G P) := by
  have h3 : t.val % 4 = 3 := (flush0_4 t).mp hf
  have hN : cfg0.N = 4 := N_0
  have ht := t.isLt
  have h3' : t.val = 3 := by omega
  have hz : (fun a => win0_4.index t a * main_v2.ty.shape.size a) = fun _ => 0 := funext fun a => by rw [at4]; exact Nat.zero_mul _
  refine Eq.trans ?_ (Memref.read_access_unit_zero (Elt Ideal) main_v2 hz (fun a => by rw [congrFun hz a]; simp) (kernelArray c G P)).symm
  rw [Value.flushed4_C m c t (by omega) (by omega) h3]
  refine (congrArg ((cfg0.win 4).cut (grid0.coords t)) (out_C c _ _ _ _ _ _ _ _ _ _ _ _ _ _ _ _ _ _ P (cols2 m c G P HG HP _) (rows3 m c G P HG HP _) oP _ _ _)).trans ?_
  have e := words m c G P HG HP oG oP (t.val - 1) (by omega) (by omega)
  rw [(e 2).trans (if_pos rfl), (e 0).trans ((if_neg (by decide)).trans (if_neg (by decide))),
    (e 1).trans ((if_neg (by decide)).trans (if_pos rfl)), coords_val, ← EReal.coe_add, h3', ← Finset.sum_range_succ]
  rfl

theorem final_eq : (dats m 0 c).arrAt 4 cfg0.N = kernelArray c G P :=
  (dats m 0 c).arrAt_eq_of_cover 4 (kernelArray c G P) (flushed_eq m c G P HG HP oG oP) fun i =>
    ⟨t0_3, (flush0_4 t0_3).mpr rfl, by
      show i ∈ ((View.whole main_v2).slice (win0_4.rect t0_3)).set
      rw [View.set_slice_whole, Rect.mem_set_unit]
      intro a
      have h0 : (i 0 : Nat) < 1 := (i 0).isLt
      have h1 : (i 1 : Nat) < 1 := (i 1).isLt
      match a with
      | ⟨0, _⟩ => show win0_4.index t0_3 0 * 1 ≤ (i 0 : Nat) ∧ (i 0 : Nat) < win0_4.index t0_3 0 * 1 + 1
                  rw [at4]; omega
      | ⟨1, _⟩ => show win0_4.index t0_3 1 * 1 ≤ (i 1 : Nat) ∧ (i 1 : Nat) < win0_4.index t0_3 1 * 1 + 1
                  rw [at4]; omega⟩

end Cert.Loss
end
end
-- ==== Proof.RefCorners.lean ====
/-
  The reference's corner arrays and its table of clipped overlap ratios, entry by entry.
-/
module

public import proofs.«01_k».proof.Proof.Targets
public import proofs.«01_k».proof.Proof.Gen.FlooredIdeal.Read

@[expose] public section

set_option maxRecDepth 16384

noncomputable section

namespace Cert.Loss.Ref

open Idealize.ShloMosaic Idealize.ShloMosaic.ValueIdx Cert.FlooredIdeal Cert.FlooredIdeal.Gen Cert.FlooredIdeal.Read
open scoped BigOperators

/-- Four columns side by side. -/
theorem beside4_apply {n : ℕ} {α : Type} (a b c d : (⟨2, ![n, 1]⟩ : Shape).Idx → α)
    (h : Shape.Concatenates ([⟨⟨2, ![n, 1]⟩, a⟩, ⟨⟨2, ![n, 1]⟩, b⟩, ⟨⟨2, ![n, 1]⟩, c⟩, ⟨⟨2, ![n, 1]⟩, d⟩].map
      (fun p : ((s : Shape) × (s.Idx → α)) => p.1)) ⟨2, ![n, 4]⟩ 1) (r : Fin n) (k : Fin 4) :
    concatenate ⟨2, ![n, 4]⟩ 1 [⟨⟨2, ![n, 1]⟩, a⟩, ⟨⟨2, ![n, 1]⟩, b⟩, ⟨⟨2, ![n, 1]⟩, c⟩, ⟨⟨2, ![n, 1]⟩, d⟩] h (ix2 r k)
      = (![a, b, c, d] k) (ix2 r 0) := by
  have off : ∀ x : Fin 2, x.cast rfl ≠ (1 : Fin 2) → ((ix2 r (0 : Fin 1) : (⟨2, ![n, 1]⟩ : Shape).Idx) x).val
      = ((ix2 r k : (⟨2, ![n, 4]⟩ : Shape).Idx) (x.cast rfl)).val := fun x hx => by
    match x with
    | ⟨0, _⟩ => rfl
    | ⟨1, _⟩ => exact absurd rfl hx
  match k with
  | ⟨0, _⟩ => exact concatenate_apply_piece _ _ h _ 0 (by simp) ⟨2, ![n, 1]⟩ a rfl rfl 0 rfl (ix2 r 0) off rfl
  | ⟨1, _⟩ => exact concatenate_apply_piece _ _ h _ 1 (by simp) ⟨2, ![n, 1]⟩ b rfl rfl 1 rfl (ix2 r 0) off rfl
  | ⟨2, _⟩ => exact concatenate_apply_piece _ _ h _ 2 (by simp) ⟨2, ![n, 1]⟩ c rfl rfl 2 rfl (ix2 r 0) off rfl
  | ⟨3, _⟩ => exact concatenate_apply_piece _ _ h _ 3 (by simp) ⟨2, ![n, 1]⟩ d rfl rfl 3 rfl (ix2 r 0) off rfl

/-- Half of a real. -/
theorem halved (a : ℝ) : Ideal.div (a : EReal) (Ideal.ofBits .f32 0x40000000#32) = ((a / 2 : ℝ) : EReal) := by
  rw [two_f32]; exact div_coe two_ne_zero

section Corners
variable {x0 : FVec Ideal S512x4 .f32} {x1 : FVec Ideal S2048x4 .f32} {G : Fin 512 → Box} {P : Fin 2048 → Box}
  (H0 : ∀ p k, x0 (ix2 p k) = ((G p k : ℝ) : EReal)) (H1 : ∀ p k, x1 (ix2 p k) = ((P p k : ℝ) : EReal))

/-- An entry at any index with the given coordinates. -/
theorem at2 {n m : ℕ} {α : Type} (x : (⟨2, ![n, m]⟩ : Shape).Idx → α) (i : (⟨2, ![n, m]⟩ : Shape).Idx) (r : Fin n) (k : Fin m)
    (h0 : (i 0).val = r.val) (h1 : (i 1).val = k.val) : x i = x (ix2 r k) :=
  congrArg x (funext fun a => Fin.ext (match a with | ⟨0, _⟩ => h0 | ⟨1, _⟩ => h1))

section G
include H0
theorem g0 (r : Fin 512) : val_main_v1 (F := Ideal) x0 (ix1 r) = ((G r 0 : ℝ) : EReal) := by
  rw [val_main_v1_apply, val_main_v0_apply, at2 x0 _ r 0 (Nat.div_one _) rfl, H0]
theorem g1 (r : Fin 512) : val_main_v3 (F := Ideal) x0 (ix1 r) = ((G r 1 : ℝ) : EReal) := by
  rw [val_main_v3_apply, val_main_v2_apply, at2 x0 _ r 1 (Nat.div_one _) rfl, H0]
theorem g2 (r : Fin 512) : val_main_v5 (F := Ideal) x0 (ix1 r) = ((G r 2 : ℝ) : EReal) := by
  rw [val_main_v5_apply, val_main_v4_apply, at2 x0 _ r 2 (Nat.div_one _) rfl, H0]
theorem g3 (r : Fin 512) : val_main_v7 (F := Ideal) x0 (ix1 r) = ((G r 3 : ℝ) : EReal) := by
  rw [val_main_v7_apply, val_main_v6_apply, at2 x0 _ r 3 (Nat.div_one _) rfl, H0]

theorem v24_at (r : Fin 512) (k : Fin 4) : val_main_v24 (F := Ideal) x0 (ix2 r k) = ((cor (G r) k : ℝ) : EReal) := by
  refine (beside4_apply _ _ _ _ _ r k).trans ?_
  have one (i : S512.Idx) (h : (i 0).val = r.val) : i = ix1 r := funext fun a => Fin.ext (match a with | ⟨0, _⟩ => h)
  match k with
  | ⟨0, _⟩ =>
    show val_main_v20 (F := Ideal) x0 (ix2 r 0) = _
    rw [val_main_v20_apply, one (idx_main_v20 (ix2 r 0)) rfl, val_main_v10_apply, val_main_v9_apply, val_main_v8_apply, val_main_cst_apply, g0 H0, g2 H0]
    exact (congrArg (((G r 0 : ℝ) : EReal) - ·) (halved _)).trans (EReal.coe_sub _ _).symm
  | ⟨1, _⟩ =>
    show val_main_v21 (F := Ideal) x0 (ix2 r 0) = _
    rw [val_main_v21_apply, one (idx_main_v21 (ix2 r 0)) rfl, val_main_v13_apply, val_main_v12_apply, val_main_v11_apply, val_main_cst_0_apply, g1 H0, g3 H0]
    exact (congrArg (((G r 1 : ℝ) : EReal) - ·) (halved _)).trans (EReal.coe_sub _ _).symm
  | ⟨2, _⟩ =>
    show val_main_v22 (F := Ideal) x0 (ix2 r 0) = _
    rw [val_main_v22_apply, one (idx_main_v22 (ix2 r 0)) rfl, val_main_v16_apply, val_main_v15_apply, val_main_v14_apply, val_main_cst_1_apply, g0 H0, g2 H0]
    exact (congrArg (((G r 0 : ℝ) : EReal) + ·) (halved _)).trans (EReal.coe_add _ _).symm
  | ⟨3, _⟩ =>
    show val_main_v23 (F := Ideal) x0 (ix2 r 0) = _
    rw [val_main_v23_apply, one (idx_main_v23 (ix2 r 0)) rfl, val_main_v19_apply, val_main_v18_apply, val_main_v17_apply, val_main_cst_2_apply, g1 H0, g3 H0]
    exact (congrArg (((G r 1 : ℝ) : EReal) + ·) (halved _)).trans (EReal.coe_add _ _).symm

theorem v24_of (i : S512x4.Idx) (r : Fin 512) (k : Fin 4) (h0 : (i 0).val = r.val) (h1 : (i 1).val = k.val) :
    val_main_v24 (F := Ideal) x0 i = ((cor (G r) k : ℝ) : EReal) := (at2 _ i r k h0 h1).trans (v24_at H0 r k)
end G

section P
include H1
theorem p0 (r : Fin 2048) : val_main_v26 (F := Ideal) x1 (ix1 r) = ((P r 0 : ℝ) : EReal) := by
  rw [val_main_v26_apply, val_main_v25_apply, at2 x1 _ r 0 (Nat.div_one _) rfl, H1]
theorem p1 (r : Fin 2048) : val_main_v28 (F := Ideal) x1 (ix1 r) = ((P r 1 : ℝ) : EReal) := by
  rw [val_main_v28_apply, val_main_v27_apply, at2 x1 _ r 1 (Nat.div_one _) rfl, H1]
theorem p2 (r : Fin 2048) : val_main_v30 (F := Ideal) x1 (ix1 r) = ((P r 2 : ℝ) : EReal) := by
  rw [val_main_v30_apply, val_main_v29_apply, at2 x1 _ r 2 (Nat.div_one _) rfl, H1]
theorem p3 (r : Fin 2048) : val_main_v32 (F := Ideal) x1 (ix1 r) = ((P r 3 : ℝ) : EReal) := by
  rw [val_main_v32_apply, val_main_v31_apply, at2 x1 _ r 3 (Nat.div_one _) rfl, H1]

theorem v49_at (r : Fin 2048) (k : Fin 4) : val_main_v49 (F := Ideal) x1 (ix2 r k) = ((cor (P r) k : ℝ) : EReal) := by
  refine (beside4_apply _ _ _ _ _ r k).trans ?_
  have one (i : S2048.Idx) (h : (i 0).val = r.val) : i = ix1 r := funext fun a => Fin.ext (match a with | ⟨0, _⟩ => h)
  match k with
  | ⟨0, _⟩ =>
    show val_main_v45 (F := Ideal) x1 (ix2 r 0) = _
    rw [val_main_v45_apply, one (idx_main_v45 (ix2 r 0)) rfl, val_main_v35_apply, val_main_v34_apply, val_main_v33_apply, val_main_cst_3_apply, p0 H1, p2 H1]
    exact (congrArg (((P r 0 : ℝ) : EReal) - ·) (halved _)).trans (EReal.coe_sub _ _).symm
  | ⟨1, _⟩ =>
    show val_main_v46 (F := Ideal) x1 (ix2 r 0) = _
    rw [val_main_v46_apply, one (idx_main_v46 (ix2 r 0)) rfl, val_main_v38_apply, val_main_v37_apply, val_main_v36_apply, val_main_cst_4_apply, p1 H1, p3 H1]
    exact (congrArg (((P r 1 : ℝ) : EReal) - ·) (halved _)).trans (EReal.coe_sub _ _).symm
  | ⟨2, _⟩ =>
    show val_main_v47 (F := Ideal) x1 (ix2 r 0) = _
    rw [val_main_v47_apply, one (idx_main_v47 (ix2 r 0)) rfl, val_main_v41_apply, val_main_v40_apply, val_main_v39_apply, val_main_cst_5_apply, p0 H1, p2 H1]
    exact (congrArg (((P r 0 : ℝ) : EReal) + ·) (halved _)).trans (EReal.coe_add _ _).symm
  | ⟨3, _⟩ =>
    show val_main_v48 (F := Ideal) x1 (ix2 r 0) = _
    rw [val_main_v48_apply, one (idx_main_v48 (ix2 r 0)) rfl, val_main_v44_apply, val_main_v43_apply, val_main_v42_apply, val_main_cst_6_apply, p1 H1, p3 H1]
    exact (congrArg (((P r 1 : ℝ) : EReal) + ·) (halved _)).trans (EReal.coe_add _ _).symm

theorem v49_of (i : S2048x4.Idx) (r : Fin 2048) (k : Fin 4) (h0 : (i 0).val = r.val) (h1 : (i 1).val = k.val) :
    val_main_v49 (F := Ideal) x1 i = ((cor (P r) k : ℝ) : EReal) := (at2 _ i r k h0 h1).trans (v49_at H1 r k)
end P

/-! ## The overlap ratios of truth boxes and predicted boxes -/

/-- One side of an overlap, over the reals. -/
theorem side_eq (a b c d : ℝ) : max (min (a : EReal) b - max (c : EReal) d + Ideal.ofBits .f32 0x3F800000#32) (Ideal.ofBits .f32 0x00000000#32)
    = ((max (min a b - max c d + 1) 0 : ℝ) : EReal) := by
  rw [one_f32, Ideal.ofBits_zero_f32, ← coe_min, ← coe_max, ← EReal.coe_sub, ← EReal.coe_add]; exact (coe_max _ _).symm

theorem edge_eq (a b : ℝ) : (a : EReal) - b + Ideal.ofBits .f32 0x3F800000#32 = ((a - b + 1 : ℝ) : EReal) := by
  rw [one_f32, ← EReal.coe_sub, ← EReal.coe_add]

/-- The denominator's floor never bites. -/
theorem ratio_eq {c d : Box} (hc : Ordered c) (hd : Ordered d) :
    Ideal.div ((ovl c d : ℝ) : EReal) (max (((area c : ℝ) : EReal) + ((area d : ℝ) : EReal) - ((ovl c d : ℝ) : EReal)) (Ideal.ofBits .f32 0x33D6BF95#32))
      = ((iou c d : ℝ) : EReal) := by
  have hu : 1 ≤ union c d := one_le_union hc hd
  rw [eps_f32, ← EReal.coe_add, ← EReal.coe_sub, ← coe_max, max_eq_left (show eps ≤ area c + area d - ovl c d from eps_lt_one.le.trans hu)]
  exact div_coe (ne_of_gt (lt_of_lt_of_le one_pos hu))

include H0 H1

theorem v68_of (i : S512x2048x2.Idx) (r : Fin 512) (q : Fin 2048) (a b : Fin 4) (h0 : (i 0).val = r.val) (h1 : (i 1).val = q.val)
    (ha : (i 2).val = a.val) (hb : 2 + (i 2).val = b.val) : val_main_v68 (F := Ideal) x0 x1 i
      = ((max (min (cor (G r) b) (cor (P q) b) - max (cor (G r) a) (cor (P q) a) + 1) 0 : ℝ) : EReal) := by
  rw [val_main_v68_apply, val_main_v66_apply, val_main_v64_apply, val_main_v63_apply, val_main_v56_apply, val_main_v65_apply, val_main_cst_7_apply,
    val_main_v67_apply, val_main_cst_8_apply, val_main_v54_apply, val_main_v51_apply, val_main_v50_apply, v24_of H0 _ r a h0 ha,
    val_main_v55_apply, val_main_v53_apply, val_main_v52_apply, v49_of H1 _ q a h1 ha,
    val_main_v61_apply, val_main_v58_apply, val_main_v57_apply, v24_of H0 _ r b h0 hb,
    val_main_v62_apply, val_main_v60_apply, val_main_v59_apply, v49_of H1 _ q b h1 hb]
  exact side_eq _ _ _ _

theorem v73_at (r : Fin 512) (q : Fin 2048) : val_main_v73 (F := Ideal) x0 x1 (ix2 r q) = ((ovl (cor (G r)) (cor (P q)) : ℝ) : EReal) := by
  have hr := r.isLt
  have hq := q.isLt
  rw [val_main_v73_apply, val_main_v70_apply, val_main_v69_apply, val_main_v72_apply, val_main_v71_apply,
    v68_of H0 H1 (idx_main_v69 _) r q 0 2 (show (r.val * 2048 + q.val) / 2048 = r.val by omega) (show (r.val * 2048 + q.val) / 1 % 2048 = q.val by omega) rfl rfl,
    v68_of H0 H1 (idx_main_v71 _) r q 1 3 (show (r.val * 2048 + q.val) / 2048 = r.val by omega) (show (r.val * 2048 + q.val) / 1 % 2048 = q.val by omega) rfl rfl]
  exact (EReal.coe_mul _ _).symm

theorem v88_at (r : Fin 512) : val_main_v88 (F := Ideal) x0 (ix1 r) = ((area (cor (G r)) : ℝ) : EReal) := by
  rw [val_main_v88_apply, val_main_v80_apply, val_main_v78_apply, val_main_v79_apply, val_main_cst_9_apply, val_main_v87_apply, val_main_v85_apply,
    val_main_v86_apply, val_main_cst_10_apply, val_main_v75_apply, val_main_v74_apply, v24_of H0 _ r 2 (Nat.div_one _) rfl,
    val_main_v77_apply, val_main_v76_apply, v24_of H0 _ r 0 (Nat.div_one _) rfl, val_main_v82_apply, val_main_v81_apply, v24_of H0 _ r 3 (Nat.div_one _) rfl,
    val_main_v84_apply, val_main_v83_apply, v24_of H0 _ r 1 (Nat.div_one _) rfl]
  exact (congrArg₂ (fun a b : EReal => a * b) (edge_eq _ _) (edge_eq _ _)).trans (EReal.coe_mul _ _).symm

theorem v103_at (q : Fin 2048) : val_main_v103 (F := Ideal) x1 (ix1 q) = ((area (cor (P q)) : ℝ) : EReal) := by
  rw [val_main_v103_apply, val_main_v95_apply, val_main_v93_apply, val_main_v94_apply, val_main_cst_11_apply, val_main_v102_apply, val_main_v100_apply,
    val_main_v101_apply, val_main_cst_12_apply, val_main_v90_apply, val_main_v89_apply, v49_of H1 _ q 2 (Nat.div_one _) rfl,
    val_main_v92_apply, val_main_v91_apply, v49_of H1 _ q 0 (Nat.div_one _) rfl, val_main_v97_apply, val_main_v96_apply, v49_of H1 _ q 3 (Nat.div_one _) rfl,
    val_main_v99_apply, val_main_v98_apply, v49_of H1 _ q 1 (Nat.div_one _) rfl]
  exact (congrArg₂ (fun a b : EReal => a * b) (edge_eq _ _) (edge_eq _ _)).trans (EReal.coe_mul _ _).symm

/-- The clipped table: the column of each predicted box. -/
theorem v113_at (oG : ∀ p, Ordered (cor (G p))) (oP : ∀ p, Ordered (cor (P p))) (r : Fin 512) (q : Fin 2048) :
    val_main_v113 (F := Ideal) x0 x1 (ix2 r q) = ccol G (P q) r := by
  have e1 : val_main_v106 (F := Ideal) x0 (ix2 r q) = ((area (cor (G r)) : ℝ) : EReal) := by
    rw [val_main_v106_apply, val_main_v104_apply]
    exact (congrArg (val_main_v88 (F := Ideal) x0) (funext fun a => Fin.ext (match a with | ⟨0, _⟩ => rfl))).trans (v88_at H0 H1 r)
  have e2 : val_main_v107 (F := Ideal) x1 (ix2 r q) = ((area (cor (P q)) : ℝ) : EReal) := by
    rw [val_main_v107_apply, val_main_v105_apply]
    exact (congrArg (val_main_v103 (F := Ideal) x1) (funext fun a => Fin.ext (match a with | ⟨0, _⟩ => rfl))).trans (v103_at H0 H1 q)
  rw [val_main_v113_apply, val_main_call0_v4_apply, val_main_call0_v3_apply, val_main_cst_15_apply, val_main_call0_v2_apply,
    val_main_call0_v1_apply, val_main_call0_v0_apply, val_main_cst_14_apply, val_main_v112_apply, val_main_v111_apply, val_main_v110_apply, val_main_cst_13_apply,
    val_main_v109_apply, val_main_v108_apply, e1, e2, v73_at H0 H1]
  refine (congrArg₂ (fun a b : EReal => min a b) one_f32 (congrArg₂ (fun a b : EReal => max a b) eps_f32 (ratio_eq (oG r) (oP q)))).trans ?_
  rw [← coe_max, ← coe_min]
  rfl

end Corners

end Cert.Loss.Ref
end
end
-- ==== Proof.RefWords.lean ====
/-
  The reference's two choices of a truth box for each predicted box: the row of the best ratio, the table with that ratio set to zero,
  the row of the best ratio left, and the corners taken at those rows.
-/
module

public import proofs.«01_k».proof.Proof.RefCorners
public import Idealize.ShloMosaic.Lib.Routing.OpsSet

@[expose] public section

set_option maxRecDepth 16384

noncomputable section

namespace Cert.Loss.Ref

open Idealize.ShloMosaic Idealize.ShloMosaic.ValueIdx Cert.FlooredIdeal Cert.FlooredIdeal.Gen Cert.FlooredIdeal.Read
open scoped BigOperators

theorem oneAxis : S512x2048.Reduces [0] S2048 := by decide

theorem oneAxis_lift (q : Fin 2048) (r : Fin 512) : oneAxis.lift (ix1 q) r = ix2 r q := by
  funext a; apply Fin.ext
  match a with
  | ⟨0, _⟩ => rfl
  | ⟨1, _⟩ => rfl

/-- The maximum of a column, from below every number. -/
theorem col_max (X : FVec Ideal S512x2048 .f32) (init : S_.Idx → EReal) (hi : ∀ i, init i = Ideal.ofBits .f32 0xFF800000#32) (q : Fin 2048) :
    Host.reduce (FloatOps.maximumf (F := Ideal) (φ := .f32)) X init reducesTo_S512x2048_S2048_d0 h_S_ (ix1 q)
      = Finset.univ.fold max ⊥ fun r : Fin 512 => X (ix2 r q) := by
  refine (Host.reduce_eq_fold_single _ X init reducesTo_S512x2048_S2048_d0 oneAxis h_S_ (ix1 q)).trans ?_
  have e : (X ∘ oneAxis.lift (ix1 q)) = fun r => X (ix2 r q) := funext fun r => congrArg X (oneAxis_lift q r)
  rw [e, hi]
  exact congrArg (fun b => Finset.univ.fold max b _) (by simp [Ideal.ofBits, Ideal.ieee])

/-- The least row number kept, when a row keeps its number exactly if it attains the column's maximum. -/
theorem col_word (X : FVec Ideal S512x2048 .f32) (W : IVec S512x2048 32) (init : S_.Idx → BitVec 32) (hi : ∀ i, init i = 2147483647#32) (q : Fin 2048)
    (hW : ∀ r : Fin 512, W (ix2 r q) = Scalar.select (Ideal.cmp .oeq (X (ix2 r q)) (Finset.univ.fold max ⊥ fun r : Fin 512 => X (ix2 r q)))
      (BitVec.ofNat 32 r.val) 512#32) :
    Host.reduce IntOp.minsi W init reducesTo_S512x2048_S2048_d0 h_S_ (ix1 q) = maxWord fun r => X (ix2 r q) := by
  refine (Host.reduce_eq_fold_single _ W init reducesTo_S512x2048_S2048_d0 oneAxis h_S_ (ix1 q)).trans ?_
  have e : (W ∘ oneAxis.lift (ix1 q)) = fun r => W (ix2 r q) := funext fun r => congrArg W (oneAxis_lift q r)
  rw [e, hi]
  unfold maxWord
  exact congrArg (fun f : Fin 512 → BitVec 32 => Finset.univ.fold IntOp.minsi 2147483647#32 f) (funext fun r => hW r)

/-- A word that is not negative keeps its value when negative words are moved up. -/
theorem wrapped (n : ℕ) (h : n < 2 ^ 31) (a : BitVec 32) :
    Scalar.select (IntOp.cmpi .slt (BitVec.ofNat 32 n) 0#32) a (BitVec.ofNat 32 n) = BitVec.ofNat 32 n := by
  have e : IntOp.cmpi .slt (BitVec.ofNat 32 n) 0#32 = 0#1 := by
    show BitVec.ofBool (BitVec.slt (BitVec.ofNat 32 n) 0#32) = _
    rw [BitVec.slt_eq_decide, toInt_small h, decide_eq_false (by simp)]
    rfl
  rw [e]; rfl

/-- The rows of a table taken at a column of row numbers. -/
theorem taken (x : FVec Ideal S512x4 .f32) (w : IVec S2048x1 32) (q : Fin 2048) (k : Fin 4) (r : Fin 512) (hw : w (ix2 q 0) = BitVec.ofNat 32 r.val) :
    Host.gather gather_S512x4_S2048x1_S2048x4_1_0_n_n_0_1_14 x w (ix2 q k) = x (ix2 r k) := by
  unfold Host.gather
  congr 1
  funext a
  refine Fin.ext ?_
  show (gather_S512x4_S2048x1_S2048x4_1_0_n_n_0_1_14).start (ix2 q k) w a + (gather_S512x4_S2048x1_S2048x4_1_0_n_n_0_1_14).batchCoord (ix2 q k) a
    + (gather_S512x4_S2048x1_S2048x4_1_0_n_n_0_1_14).offCoord (ix2 q k) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 2) ∈ (gather_S512x4_S2048x1_S2048x4_1_0_n_n_0_1_14).startIndexMap from List.mem_singleton.mpr rfl)]
    have hsi : (gather_S512x4_S2048x1_S2048x4_1_0_n_n_0_1_14).siIdx (ix2 q k)
        ⟨List.idxOf (⟨0, by decide⟩ : Fin 2) (gather_S512x4_S2048x1_S2048x4_1_0_n_n_0_1_14).startIndexMap,
          List.idxOf_lt_length_iff.2 (List.mem_singleton.mpr rfl)⟩ = ix2 q 0 := by
      funext b; refine Fin.ext ?_
      match b with
      | ⟨0, _⟩ => rfl
      | ⟨1, _⟩ => rfl
    rw [hsi, hw, toInt_small (by have := r.isLt; omega)]
    show min r.val 511 + 0 + 0 = r.val
    have := r.isLt
    omega
  | ⟨1, _⟩ =>
    unfold GatherDims.start
    rw [dif_neg (show ¬ (⟨1, by decide⟩ : Fin 2) ∈ (gather_S512x4_S2048x1_S2048x4_1_0_n_n_0_1_14).startIndexMap from by decide)]
    unfold GatherDims.offCoord
    rw [dif_pos ((GatherDims.mem_sKept _ _).mpr ⟨(by decide : ¬ (1 : Fin 2) ∈ [(0 : Fin 2)]), List.not_mem_nil⟩)]
    show 0 + 0 + k.val = k.val
    omega

/-- Where a single entry lands that is written at a pair of words. -/
theorem lands (w : IVec S2048x2 32) (p : Fin 2048) (r : Fin 512) (q : Fin 2048) :
    (scatter_S512x2048_S2048x2_S2048_n_01_01_1).resultIdx? (ix1 p) w = some (ix2 r q)
      ↔ (w (ix2 p 0)).toInt = r.val ∧ (w (ix2 p 1)).toInt = q.val := by
  have hwin : ∀ a : Fin 2, (scatter_S512x2048_S2048x2_S2048_n_01_01_1).window (ix1 p) a = 0 := fun a => by
    unfold ScatterDims.window
    rw [dif_neg fun h => (of_decide_eq_true (List.mem_filter.1 h).2) (by
      show a ∈ [(0 : Fin 2), 1]
      fin_cases a <;> simp)]
  have hs0 : (scatter_S512x2048_S2048x2_S2048_n_01_01_1).start (ix1 p) w 0 = (w (ix2 p 0)).toInt := by
    unfold ScatterDims.start
    rw [dif_pos (show (0 : Fin 2) ∈ (scatter_S512x2048_S2048x2_S2048_n_01_01_1).scatterDimsToOperandDims from (by decide : (0 : Fin 2) ∈ [(0 : Fin 2), 1]))]
    refine congrArg (fun i => (w i).toInt) (funext fun b => Fin.ext ?_)
    match b with
    | ⟨0, _⟩ => rfl
    | ⟨1, _⟩ => rfl
  have hs1 : (scatter_S512x2048_S2048x2_S2048_n_01_01_1).start (ix1 p) w 1 = (w (ix2 p 1)).toInt := by
    unfold ScatterDims.start
    rw [dif_pos (show (1 : Fin 2) ∈ (scatter_S512x2048_S2048x2_S2048_n_01_01_1).scatterDimsToOperandDims from (by decide : (1 : Fin 2) ∈ [(0 : Fin 2), 1]))]
    refine congrArg (fun i => (w i).toInt) (funext fun b => Fin.ext ?_)
    match b with
    | ⟨0, _⟩ => rfl
    | ⟨1, _⟩ => rfl
  rw [Routing.resultIdx?_eq_some]
  constructor
  · intro h
    have h0 := h 0
    have h1 := h 1
    rw [hs0, hwin] at h0
    rw [hs1, hwin] at h1
    exact ⟨by simpa using h0, by simpa using h1⟩
  · rintro ⟨h0, h1⟩ a
    match a with
    | ⟨0, _⟩ => exact (congrArg₂ (fun (x : Int) (y : ℕ) => x + (y : Int)) (hs0.trans h0) (hwin 0)).trans (by simp)
    | ⟨1, _⟩ => exact (congrArg₂ (fun (x : Int) (y : ℕ) => x + (y : Int)) (hs1.trans h1) (hwin 1)).trans (by simp)

/-- A table with one entry of every column overwritten by the same value. -/
theorem overwritten (X : FVec Ideal S512x2048 .f32) (w : IVec S2048x2 32) (u : S2048.Idx → EReal) (z : EReal) (hu : ∀ i, u i = z)
    (f : Fin 2048 → Fin 512) (h0 : ∀ p, w (ix2 p 0) = BitVec.ofNat 32 (f p).val) (h1 : ∀ p : Fin 2048, w (ix2 p 1) = BitVec.ofNat 32 p.val)
    (r : Fin 512) (q : Fin 2048) :
    Host.scatter scatter_S512x2048_S2048x2_S2048_n_01_01_1 (fun _ b => b) X w u (ix2 r q) = if r = f q then z else X (ix2 r q) := by
  have hl (p : Fin 2048) : (scatter_S512x2048_S2048x2_S2048_n_01_01_1).resultIdx? (ix1 p) w = some (ix2 r q) ↔ f p = r ∧ p = q := by
    rw [lands, h0, h1, toInt_small (by have := (f p).isLt; omega), toInt_small (by have := p.isLt; omega)]
    exact ⟨fun h => ⟨Fin.ext (by exact_mod_cast h.1), Fin.ext (by exact_mod_cast h.2)⟩, fun h => ⟨by rw [h.1], by rw [h.2]⟩⟩
  by_cases h : r = f q
  · rw [if_pos h]
    exact Routing.scatter_set_hit _ X w u _ z (fun k _ => hu k) (ix1 q) ((hl q).2 ⟨h.symm, rfl⟩)
  · rw [if_neg h]
    refine Routing.scatter_set_miss _ X w u _ fun k hk => ?_
    have hk' : k = ix1 (k 0) := funext fun a => Fin.ext (match a with | ⟨0, _⟩ => rfl)
    rw [hk'] at hk
    obtain ⟨e, e'⟩ := (hl (k 0)).1 hk
    exact h (e' ▸ e.symm)

theorem ix1_of (i : S2048.Idx) (q : Fin 2048) (h : (i 0).val = q.val) : i = ix1 q := funext fun a => Fin.ext (match a with | ⟨0, _⟩ => h)

/-- Two columns side by side. -/
theorem beside2_apply (a b : IVec S2048x1 32)
    (h : Shape.Concatenates ([⟨S2048x1, a⟩, ⟨S2048x1, b⟩].map (fun p : ((s : Shape) × (s.Idx → BitVec 32)) => p.1)) S2048x2 1)
    (p : Fin 2048) (k : Fin 2) :
    concatenate S2048x2 1 [⟨S2048x1, a⟩, ⟨S2048x1, b⟩] h (ix2 p k) = (![a, b] k) (ix2 p 0) := by
  have off : ∀ x : Fin 2, x.cast rfl ≠ (1 : Fin 2) → ((ix2 p (0 : Fin 1) : S2048x1.Idx) x).val
      = ((ix2 p k : S2048x2.Idx) (x.cast rfl)).val := fun x hx => by
    match x with
    | ⟨0, _⟩ => rfl
    | ⟨1, _⟩ => exact absurd rfl hx
  match k with
  | ⟨0, _⟩ => exact concatenate_apply_piece _ _ h _ 0 (by simp) S2048x1 a rfl rfl 0 rfl (ix2 p 0) off rfl
  | ⟨1, _⟩ => exact concatenate_apply_piece _ _ h _ 1 (by simp) S2048x1 b rfl rfl 1 rfl (ix2 p 0) off rfl

theorem beside2_left (a b : IVec S2048x1 32) (h : Shape.Concatenates [S2048x1, S2048x1] S2048x2 1) (p : Fin 2048) :
    concatenate S2048x2 1 [⟨S2048x1, a⟩, ⟨S2048x1, b⟩] h (ix2 p 0) = a (ix2 p 0) := beside2_apply a b h p 0
theorem beside2_right (a b : IVec S2048x1 32) (h : Shape.Concatenates [S2048x1, S2048x1] S2048x2 1) (p : Fin 2048) :
    concatenate S2048x2 1 [⟨S2048x1, a⟩, ⟨S2048x1, b⟩] h (ix2 p 1) = b (ix2 p 0) := beside2_apply a b h p 1

section Words
variable {x0 : FVec Ideal S512x4 .f32} {x1 : FVec Ideal S2048x4 .f32} {G : Fin 512 → Box} {P : Fin 2048 → Box}
  (H0 : ∀ p k, x0 (ix2 p k) = ((G p k : ℝ) : EReal)) (H1 : ∀ p k, x1 (ix2 p k) = ((P p k : ℝ) : EReal))
  (oG : ∀ p, Ordered (cor (G p))) (oP : ∀ p, Ordered (cor (P p)))
include H0 H1 oG oP

/-- The row of the best ratio. -/
theorem v183_at (q : Fin 2048) : val_main_v183 (F := Ideal) x0 x1 (ix1 q) = BitVec.ofNat 32 (best G (P q)).val := by
  have hX : (fun r => val_main_v113 (F := Ideal) x0 x1 (ix2 r q)) = ccol G (P q) := funext fun r => v113_at H0 H1 oG oP r q
  refine (col_word (val_main_v113 (F := Ideal) x0 x1) (val_main_v182 (F := Ideal) x0 x1) _ (fun _ => rfl) q (fun r => ?_)).trans ?_
  · rw [val_main_v182_apply, val_main_v181_apply, val_main_v180_apply, val_main_v179_apply, val_main_v177_apply, val_main_call1_v1_apply,
      val_main_call1_v0_apply, val_main_c_apply, ix1_of (idx_main_v179 (idx_main_v180 (ix2 r q))) q rfl, val_main_v178, col_max _ (val_main_cst_23 (F := Ideal)) (fun _ => rfl)]
    rfl
  · rw [hX, maxWord_eq]; rfl

/-- The corners of the best truth box. -/
theorem v190_at (q : Fin 2048) (k : Fin 4) : val_main_v190 (F := Ideal) x0 x1 (ix2 q k) = ((cor (G (best G (P q))) k : ℝ) : EReal) := by
  refine (taken _ _ q k (best G (P q)) ?_).trans (v24_at H0 _ k)
  rw [val_main_v189_apply, ix1_of (idx_main_v189 (ix2 q 0)) q rfl, val_main_v188_apply, val_main_v185_apply, val_main_v184_apply, val_main_c_25_apply, v183_at H0 H1 oG oP]
  exact wrapped _ (by have := (best G (P q)).isLt; omega) _

/-- The table with every column's best ratio set to zero. -/
theorem v206_at (r : Fin 512) (q : Fin 2048) : val_main_v206 (F := Ideal) x0 x1 (ix2 r q) = dropMax (ccol G (P q)) r := by
  have w0 (p : Fin 2048) : val_main_v204 (F := Ideal) x0 x1 (ix2 p 0) = val_main_v202 (F := Ideal) x0 x1 (ix2 p 0) :=
    beside2_left (val_main_v202 (F := Ideal) x0 x1) (val_main_v203 (F := Ideal)) concatenates_S2048x1_S2048x1_S2048x2_d1 p
  have w1 (p : Fin 2048) : val_main_v204 (F := Ideal) x0 x1 (ix2 p 1) = val_main_v203 (F := Ideal) (ix2 p 0) :=
    beside2_right (val_main_v202 (F := Ideal) x0 x1) (val_main_v203 (F := Ideal)) concatenates_S2048x1_S2048x1_S2048x2_d1 p
  refine (overwritten (val_main_v113 (F := Ideal) x0 x1) (val_main_v204 (F := Ideal) x0 x1) (val_main_v205 (F := Ideal)) (Ideal.ofBits .f32 0x00000000#32) (fun i => ?_) (fun p => best G (P p)) (fun p => ?_) (fun p => ?_) r q).trans ?_
  · rw [val_main_v205_apply, val_main_cst_31_apply]; rfl
  · rw [w0, val_main_v202_apply, ix1_of (idx_main_v202 (ix2 p 0)) p rfl, val_main_v196_apply, val_main_v193_apply, val_main_v192_apply, val_main_c_27_apply,
      v183_at H0 H1 oG oP]
    exact wrapped _ (by have := (best G (P p)).isLt; omega) _
  · rw [w1, val_main_v203_apply, ix1_of (idx_main_v203 (ix2 p 0)) p rfl, val_main_v201_apply, val_main_v198_apply, val_main_v197_apply, val_main_c_29_apply,
      val_main_v191_apply]
    exact wrapped p.val (by have := p.isLt; omega) _
  · rw [Ideal.ofBits_zero_f32, v113_at H0 H1 oG oP]; rfl

/-- The row of the best ratio left. -/
theorem v213_at (q : Fin 2048) : val_main_v213 (F := Ideal) x0 x1 (ix1 q) = BitVec.ofNat 32 (next G (P q)).val := by
  have hX : (fun r => val_main_v206 (F := Ideal) x0 x1 (ix2 r q)) = dropMax (ccol G (P q)) := funext fun r => v206_at H0 H1 oG oP r q
  refine (col_word (val_main_v206 (F := Ideal) x0 x1) (val_main_v212 (F := Ideal) x0 x1) _ (fun _ => rfl) q (fun r => ?_)).trans ?_
  · rw [val_main_v212_apply, val_main_v211_apply, val_main_v210_apply, val_main_v209_apply, val_main_v207_apply, val_main_call2_v1_apply,
      val_main_call2_v0_apply, val_main_c_33_apply, ix1_of (idx_main_v209 (idx_main_v210 (ix2 r q))) q rfl, val_main_v208, col_max _ (val_main_cst_32 (F := Ideal)) (fun _ => rfl)]
    rfl
  · rw [hX, maxWord_eq]; rfl

/-- The corners of the next truth box. -/
theorem v220_at (q : Fin 2048) (k : Fin 4) : val_main_v220 (F := Ideal) x0 x1 (ix2 q k) = ((cor (G (next G (P q))) k : ℝ) : EReal) := by
  refine (taken _ _ q k (next G (P q)) ?_).trans (v24_at H0 _ k)
  rw [val_main_v219_apply, ix1_of (idx_main_v219 (ix2 q 0)) q rfl, val_main_v218_apply, val_main_v215_apply, val_main_v214_apply, val_main_c_35_apply, v213_at H0 H1 oG oP]
  exact wrapped _ (by have := (next G (P q)).isLt; omega) _

end Words

end Cert.Loss.Ref
end
end
-- ==== Proof.RefPairs.lean ====
/-
  The reference's overlap ratios of predicted boxes with one another, and its pair sum.
-/
module

public import proofs.«01_k».proof.Proof.RefCorners
public import proofs.«01_k».proof.Proof.Pairs

@[expose] public section

set_option maxRecDepth 16384

noncomputable section

namespace Cert.Loss.Ref

open Idealize.ShloMosaic Idealize.ShloMosaic.ValueIdx Cert.FlooredIdeal Cert.FlooredIdeal.Gen Cert.FlooredIdeal.Read
open scoped BigOperators

variable {x1 : FVec Ideal S2048x4 .f32} {P : Fin 2048 → Box} (H1 : ∀ p k, x1 (ix2 p k) = ((P p k : ℝ) : EReal))
include H1

theorem v132_of (i : S2048x2048x2.Idx) (r : Fin 2048) (q : Fin 2048) (a b : Fin 4) (h0 : (i 0).val = r.val) (h1 : (i 1).val = q.val)
    (ha : (i 2).val = a.val) (hb : 2 + (i 2).val = b.val) : val_main_v132 (F := Ideal) x1 i
      = ((max (min (cor (P r) b) (cor (P q) b) - max (cor (P r) a) (cor (P q) a) + 1) 0 : ℝ) : EReal) := by
  rw [val_main_v132_apply, val_main_v130_apply, val_main_v128_apply, val_main_v127_apply, val_main_v120_apply, val_main_v129_apply, val_main_cst_16_apply,
    val_main_v131_apply, val_main_cst_17_apply, val_main_v118_apply, val_main_v115_apply, val_main_v114_apply, v49_of H1 _ r a h0 ha,
    val_main_v119_apply, val_main_v117_apply, val_main_v116_apply, v49_of H1 _ q a h1 ha,
    val_main_v125_apply, val_main_v122_apply, val_main_v121_apply, v49_of H1 _ r b h0 hb,
    val_main_v126_apply, val_main_v124_apply, val_main_v123_apply, v49_of H1 _ q b h1 hb]
  exact side_eq _ _ _ _

theorem v137_at (r : Fin 2048) (q : Fin 2048) : val_main_v137 (F := Ideal) x1 (ix2 r q) = ((ovl (cor (P r)) (cor (P q)) : ℝ) : EReal) := by
  have hr := r.isLt
  have hq := q.isLt
  rw [val_main_v137_apply, val_main_v134_apply, val_main_v133_apply, val_main_v136_apply, val_main_v135_apply,
    v132_of H1 (idx_main_v133 _) r q 0 2 (show (r.val * 2048 + q.val) / 2048 = r.val by omega) (show (r.val * 2048 + q.val) / 1 % 2048 = q.val by omega) rfl rfl,
    v132_of H1 (idx_main_v135 _) r q 1 3 (show (r.val * 2048 + q.val) / 2048 = r.val by omega) (show (r.val * 2048 + q.val) / 1 % 2048 = q.val by omega) rfl rfl]
  exact (EReal.coe_mul _ _).symm

theorem v152_at (r : Fin 2048) : val_main_v152 (F := Ideal) x1 (ix1 r) = ((area (cor (P r)) : ℝ) : EReal) := by
  rw [val_main_v152_apply, val_main_v144_apply, val_main_v142_apply, val_main_v143_apply, val_main_cst_18_apply, val_main_v151_apply, val_main_v149_apply,
    val_main_v150_apply, val_main_cst_19_apply, val_main_v139_apply, val_main_v138_apply, v49_of H1 _ r 2 (Nat.div_one _) rfl,
    val_main_v141_apply, val_main_v140_apply, v49_of H1 _ r 0 (Nat.div_one _) rfl, val_main_v146_apply, val_main_v145_apply, v49_of H1 _ r 3 (Nat.div_one _) rfl,
    val_main_v148_apply, val_main_v147_apply, v49_of H1 _ r 1 (Nat.div_one _) rfl]
  exact (congrArg₂ (fun a b : EReal => a * b) (edge_eq _ _) (edge_eq _ _)).trans (EReal.coe_mul _ _).symm

theorem v167_at (q : Fin 2048) : val_main_v167 (F := Ideal) x1 (ix1 q) = ((area (cor (P q)) : ℝ) : EReal) := by
  rw [val_main_v167_apply, val_main_v159_apply, val_main_v157_apply, val_main_v158_apply, val_main_cst_20_apply, val_main_v166_apply, val_main_v164_apply,
    val_main_v165_apply, val_main_cst_21_apply, val_main_v154_apply, val_main_v153_apply, v49_of H1 _ q 2 (Nat.div_one _) rfl,
    val_main_v156_apply, val_main_v155_apply, v49_of H1 _ q 0 (Nat.div_one _) rfl, val_main_v161_apply, val_main_v160_apply, v49_of H1 _ q 3 (Nat.div_one _) rfl,
    val_main_v163_apply, val_main_v162_apply, v49_of H1 _ q 1 (Nat.div_one _) rfl]
  exact (congrArg₂ (fun a b : EReal => a * b) (edge_eq _ _) (edge_eq _ _)).trans (EReal.coe_mul _ _).symm

/-- The pairs' overlap ratios. -/
theorem v176_at (oP : ∀ p, Ordered (cor (P p))) (r q : Fin 2048) :
    val_main_v176 (F := Ideal) x1 (ix2 r q) = ((iou (cor (P r)) (cor (P q)) : ℝ) : EReal) := by
  have e1 : val_main_v170 (F := Ideal) x1 (ix2 r q) = ((area (cor (P r)) : ℝ) : EReal) := by
    rw [val_main_v170_apply, val_main_v168_apply]
    exact (congrArg (val_main_v152 (F := Ideal) x1) (funext fun a => Fin.ext (match a with | ⟨0, _⟩ => rfl))).trans (v152_at H1 r)
  have e2 : val_main_v171 (F := Ideal) x1 (ix2 r q) = ((area (cor (P q)) : ℝ) : EReal) := by
    rw [val_main_v171_apply, val_main_v169_apply]
    exact (congrArg (val_main_v167 (F := Ideal) x1) (funext fun a => Fin.ext (match a with | ⟨0, _⟩ => rfl))).trans (v167_at H1 q)
  rw [val_main_v176_apply, val_main_v175_apply, val_main_v174_apply, val_main_cst_22_apply,
    val_main_v173_apply, val_main_v172_apply, e1, e2, v137_at H1]
  exact ratio_eq (oP r) (oP q)

omit H1 in
/-- The mask keeps the pairs above the diagonal. -/
theorem v292_at (a b : Fin 2048) : val_main_v292 (F := Ideal) (ix2 a b) = if a < b then 1#1 else 0#1 := by
  have ha := a.isLt
  have hb := b.isLt
  have h1 : (BitVec.ofNat 32 a.val + 0#32).toInt = a.val := by rw [BitVec.add_zero]; exact toInt_small (by omega)
  have h2 : (BitVec.ofNat 32 b.val).toInt = b.val := toInt_small (by omega)
  have h3 : val_main_call5_v4 (F := Ideal) (ix2 a b) = BitVec.ofBool (decide (b.val ≤ a.val)) := by
    rw [val_main_call5_v4_apply, val_main_call5_v2_apply, val_main_call5_v0_apply, val_main_call5_v1_apply, val_main_call5_c_apply, val_main_call5_v3_apply]
    show BitVec.ofBool (BitVec.sle (BitVec.ofNat 32 b.val) (BitVec.ofNat 32 a.val + 0#32)) = _
    rw [BitVec.sle_eq_decide, h1, h2]
    simp
  rw [val_main_v292_apply, h3, val_main_call5_v5_apply, val_main_call5_c_0_apply, val_main_v291_apply, val_main_c_52_apply]
  by_cases h : a < b
  · rw [if_pos h, decide_eq_false (by have : a.val < b.val := h; omega)]; rfl
  · rw [if_neg h, decide_eq_true (by have : ¬ a.val < b.val := h; omega)]; rfl

/-- One pair's penalty: minus the logarithm of one minus the ratio, floored. -/
theorem v299_at (oP : ∀ p, Ordered (cor (P p))) (a b : Fin 2048) :
    val_main_v299 (F := Ideal) x1 (ix2 a b) = ((- place P a b : ℝ) : EReal) := by
  have hl : val_main_v298 (F := Ideal) x1 (ix2 a b) = ((- plog flo (cor (P a)) (cor (P b)) : ℝ) : EReal) := by
    rw [val_main_v298_apply, val_main_v297_apply, val_main_v296_apply, val_main_v294_apply, val_main_v295_apply, val_main_cst_54_apply,
      val_main_v293_apply, val_main_cst_53_apply, v176_at H1 oP]
    show -Ideal.log (max (Ideal.ofBits .f32 0x3F800000#32 - ((iou (cor (P a)) (cor (P b)) : ℝ) : EReal)) (Ideal.ofBits .f32 0x3E9A0000#32)) = _
    rw [one_f32, flo_f32, ← EReal.coe_sub, ← coe_max, log_coe (lt_of_lt_of_le flo_pos (le_max_right _ _))]
    rfl
  rw [val_main_v299_apply, v292_at, hl, val_main_call6_v1_apply, val_main_call6_v0_apply, val_main_cst_55_apply]
  by_cases h : a < b
  · rw [if_pos h, place, if_pos h]; rfl
  · rw [if_neg h, place, if_neg h, neg_zero]; exact Ideal.ofBits_zero_f32

/-- The pair sum. -/
theorem v300_at (oP : ∀ p, Ordered (cor (P p))) (i : S_.Idx) :
    val_main_v300 (F := Ideal) x1 i = ((- pairs P : ℝ) : EReal) := by
  rw [val_main_v300_apply, val_main_cst_56_apply]
  refine (congrArg₂ (fun a b : EReal => a + b) Ideal.ofBits_zero_f32 (sum_idx2 _)).trans ?_
  rw [zero_add, pairs, ← Finset.sum_neg_distrib, coe_sum]
  refine Finset.sum_congr rfl fun a _ => ?_
  rw [← Finset.sum_neg_distrib, coe_sum]
  exact Finset.sum_congr rfl fun b _ => v299_at H1 oP a b

end Cert.Loss.Ref
end
end
-- ==== Proof.RefValue.lean ====
/-
  The reference's two losses over the predicted boxes' choices, and the number it returns.
-/
module

public import proofs.«01_k».proof.Proof.RefWords
public import proofs.«01_k».proof.Proof.RefPairs
public import Idealize.ShloMosaic.Lib.ValueIdxRank1

@[expose] public section

set_option maxRecDepth 16384

noncomputable section

namespace Cert.Loss.Ref

open Idealize.ShloMosaic Idealize.ShloMosaic.ValueIdx Cert.FlooredIdeal Cert.FlooredIdeal.Gen Cert.FlooredIdeal.Read
open scoped BigOperators

/-- The smooth L1 penalty as the reference writes it: half the square, over one. -/
theorem smooth_quotient (t : ℝ) :
    Scalar.select (Ideal.cmp .olt (max (t : EReal) (-(t : EReal))) (Ideal.ofBits .f32 0x3F800000#32))
      (Ideal.div (Ideal.ofBits .f32 0x3F000000#32 * (max (t : EReal) (-(t : EReal)) * max (t : EReal) (-(t : EReal)))) (Ideal.ofBits .f32 0x3F800000#32))
      (max (t : EReal) (-(t : EReal)) - Ideal.ofBits .f32 0x3F000000#32) = ((smooth t : ℝ) : EReal) := by
  refine Eq.trans ?_ (smooth_words t)
  have swap (b : BitVec 1) {x y : EReal} (z : EReal) (h : x = y) : Scalar.select b x z = Scalar.select b y z := by rw [h]
  refine swap _ _ ?_
  rw [abs_coe, one_f32, half_f32, ← EReal.coe_mul, ← EReal.coe_mul, ← EReal.coe_mul, ← EReal.coe_mul]
  refine (div_coe one_ne_zero).trans (congrArg _ ?_)
  ring

section Losses
variable {x0 : FVec Ideal S512x4 .f32} {x1 : FVec Ideal S2048x4 .f32} {G : Fin 512 → Box} {P : Fin 2048 → Box}
  (H0 : ∀ p k, x0 (ix2 p k) = ((G p k : ℝ) : EReal)) (H1 : ∀ p k, x1 (ix2 p k) = ((P p k : ℝ) : EReal))
  (oG : ∀ p, Ordered (cor (G p))) (oP : ∀ p, Ordered (cor (P p)))
include H0 H1 oG oP

theorem v232_at (q : Fin 2048) (k : Fin 4) :
    val_main_v232 (F := Ideal) x0 x1 (ix2 q k) = ((smooth (cor (P q) k - cor (G (best G (P q))) k) : ℝ) : EReal) := by
  have e : val_main_v222 (F := Ideal) x0 x1 (ix2 q k) = max ((cor (P q) k - cor (G (best G (P q))) k : ℝ) : EReal) (-((cor (P q) k - cor (G (best G (P q))) k : ℝ) : EReal)) := by
    rw [val_main_v222_apply, val_main_v221_apply, v49_at H1, v190_at H0 H1 oG oP, EReal.coe_sub]
    rfl
  rw [val_main_v232_apply, val_main_v224_apply, val_main_v223_apply, val_main_cst_37_apply, val_main_v229_apply, val_main_v227_apply, val_main_v226_apply,
    val_main_cst_38_apply, val_main_v225_apply, val_main_v228_apply, val_main_cst_39_apply, val_main_v231_apply, val_main_v230_apply, val_main_cst_40_apply, e]
  exact smooth_quotient _

/-- The attraction loss. -/
theorem v233_at (i : S_.Idx) : val_main_v233 (F := Ideal) x0 x1 i = ((attr G P : ℝ) : EReal) := by
  rw [val_main_v233_apply, val_main_cst_41_apply]
  refine (congrArg₂ (fun a b : EReal => a + b) Ideal.ofBits_zero_f32 (sum_idx2 (val_main_v232 (F := Ideal) x0 x1))).trans ?_
  have h (q : Fin 2048) : (∑ k : Fin 4, val_main_v232 (F := Ideal) x0 x1 (ix2 q k))
      = ((∑ k : Fin 4, smooth (cor (P q) k - cor (G (best G (P q))) k) : ℝ) : EReal) := by
    rw [coe_sum]
    exact Finset.sum_congr rfl fun k _ => v232_at H0 H1 oG oP q k
  have h' : attr G P = ∑ q : Fin 2048, ∑ k : Fin 4, smooth (cor (P q) k - cor (G (best G (P q))) k) := Finset.sum_comm
  rw [zero_add, h', coe_sum]
  exact Finset.sum_congr rfl fun q _ => h q

theorem v220_of (i : S2048x4.Idx) (q : Fin 2048) (k : Fin 4) (h0 : (i 0).val = q.val) (h1 : (i 1).val = k.val) :
    val_main_v220 (F := Ideal) x0 x1 i = ((cor (G (next G (P q))) k : ℝ) : EReal) := (at2 _ i q k h0 h1).trans (v220_at H0 H1 oG oP q k)

theorem v261_at (q : Fin 2048) :
    val_main_v261 (F := Ideal) x0 x1 (ix1 q) = ((inter (cor (P q)) (cor (G (next G (P q)))) : ℝ) : EReal) := by
  have e := v220_of H0 H1 oG oP
  rw [val_main_v261_apply, val_main_v247_apply, val_main_v246_apply, val_main_cst_43_apply, val_main_v260_apply, val_main_v259_apply, val_main_cst_44_apply,
    val_main_v245_apply, val_main_v239_apply, val_main_v244_apply, val_main_v258_apply, val_main_v252_apply, val_main_v257_apply,
    val_main_v236_apply, val_main_v235_apply, v49_of H1 _ q 2 (Nat.div_one _) rfl, val_main_v238_apply, val_main_v237_apply, e _ q 2 (Nat.div_one _) rfl,
    val_main_v241_apply, val_main_v240_apply, v49_of H1 _ q 0 (Nat.div_one _) rfl, val_main_v243_apply, val_main_v242_apply, e _ q 0 (Nat.div_one _) rfl,
    val_main_v249_apply, val_main_v248_apply, v49_of H1 _ q 3 (Nat.div_one _) rfl, val_main_v251_apply, val_main_v250_apply, e _ q 3 (Nat.div_one _) rfl,
    val_main_v254_apply, val_main_v253_apply, v49_of H1 _ q 1 (Nat.div_one _) rfl, val_main_v256_apply, val_main_v255_apply, e _ q 1 (Nat.div_one _) rfl]
  have side (a b c d : ℝ) : max (min (a : EReal) b - max (c : EReal) d) (Ideal.ofBits .f32 0x00000000#32) = ((max (min a b - max c d) 0 : ℝ) : EReal) := by
    rw [Ideal.ofBits_zero_f32, ← coe_min, ← coe_max, ← EReal.coe_sub]; exact (coe_max _ _).symm
  exact (congrArg₂ (fun a b : EReal => a * b) (side _ _ _ _) (side _ _ _ _)).trans (EReal.coe_mul _ _).symm

theorem v274_at (q : Fin 2048) :
    val_main_v274 (F := Ideal) x0 x1 (ix1 q) = ((size (cor (G (next G (P q)))) : ℝ) : EReal) := by
  have e := v220_of H0 H1 oG oP
  rw [val_main_v274_apply, val_main_v267_apply, val_main_v266_apply, val_main_v273_apply, val_main_v272_apply,
    val_main_v263_apply, val_main_v262_apply, e _ q 2 (Nat.div_one _) rfl, val_main_v265_apply, val_main_v264_apply, e _ q 0 (Nat.div_one _) rfl,
    val_main_v269_apply, val_main_v268_apply, e _ q 3 (Nat.div_one _) rfl, val_main_v271_apply, val_main_v270_apply, e _ q 1 (Nat.div_one _) rfl]
  have edge (a b : ℝ) : max ((a : EReal) - b) (-((a : EReal) - b)) = ((|a - b| : ℝ) : EReal) := by rw [← EReal.coe_sub]; exact abs_coe _
  exact (congrArg₂ (fun a b : EReal => a * b) (edge _ _) (edge _ _)).trans (EReal.coe_mul _ _).symm

theorem v288_at (q : Fin 2048) : val_main_v288 (F := Ideal) x0 x1 (ix1 q) = pen (iog (cor (P q)) (cor (G (next G (P q))))) := by
  have e : val_main_v275 (F := Ideal) x0 x1 (ix1 q) = iog (cor (P q)) (cor (G (next G (P q)))) := by
    rw [val_main_v275_apply, v261_at H0 H1 oG oP, v274_at H0 H1 oG oP]; rfl
  rw [val_main_v288_apply, val_main_v277_apply, val_main_v276_apply, val_main_cst_45_apply, val_main_v281_apply, val_main_v279_apply, val_main_v278_apply,
    val_main_cst_46_apply, val_main_v280_apply, val_main_cst_47_apply, val_main_v287_apply, val_main_v286_apply, val_main_v285_apply, val_main_v284_apply,
    val_main_cst_49_apply, val_main_v283_apply, val_main_v282_apply, val_main_cst_48_apply, e]
  have swap (b : BitVec 1) (z : EReal) {x y : EReal} (h : x = y) : Scalar.select b z x = Scalar.select b z y := by rw [h]
  refine swap _ _ ?_
  refine Eq.trans ?_ (congrArg (· - _) Ideal.ofBits_zero_f32).symm
  exact (zero_sub _).symm

/-- The repulsion loss against the next truth box. -/
theorem v289_at (i : S_.Idx) : val_main_v289 (F := Ideal) x0 x1 i = repel G P := by
  rw [val_main_v289_apply, val_main_cst_50_apply]
  refine (congrArg₂ (fun a b : EReal => a + b) Ideal.ofBits_zero_f32 (Equiv.sum_comp (idxEquiv1 (n := 2048)).symm (val_main_v288 (F := Ideal) x0 x1)).symm).trans ?_
  rw [zero_add, repel]
  exact Finset.sum_congr rfl fun q _ => v288_at H0 H1 oG oP q

/-- The number the reference returns. -/
theorem v306_at (i : S1x1.Idx) : val_main_v306 (F := Ideal) x0 x1 i
    = (Ideal.div ((attr G P : ℝ) : EReal) (Ideal.ofBits .f32 0x45000000#32)
        + Ideal.ofBits .f32 0x3F000000#32 * Ideal.div (repel G P) (Ideal.ofBits .f32 0x45000000#32))
      + Ideal.ofBits .f32 0x3F000000#32 * Ideal.div (((- pairs P : ℝ) : EReal)) (Ideal.ofBits .f32 0x49FFE000#32) := by
  have e : val_main_v306 (F := Ideal) x0 x1 i = val_main_v305 (F := Ideal) x0 x1 ix0 := by
    unfold val_main_v306
    generalize val_main_v305 (F := Ideal) x0 x1 = y
    exact congrArg y (funext fun a => a.elim0)
  rw [e, val_main_v305_apply, val_main_v303_apply, val_main_v234_apply, val_main_cst_42_apply, val_main_v302_apply, val_main_cst_58_apply,
    val_main_v290_apply, val_main_cst_51_apply, val_main_v304_apply, val_main_cst_59_apply, val_main_v301_apply, val_main_cst_57_apply,
    v233_at H0 H1 oG oP, v289_at H0 H1 oG oP, v300_at H1 oP]
  rfl

end Losses

end Cert.Loss.Ref
end
end
-- ==== Proof.Equal.lean ====
/-
  The kernel and the reference with the floored pair penalty end with the same value, for every pair of arrays the
  precondition admits: the algebraic claim.
-/
module

public import proofs.«01_k».proof.Defs
public import proofs.«01_k».proof.Proof.Boxes
public import proofs.«01_k».proof.Proof.Pairs
public import proofs.«01_k».proof.Proof.Result
public import proofs.«01_k».proof.Proof.RefValue
public import proofs.«01_k».proof.Proof.Gen.FlooredIdeal.Run

@[expose] public section

set_option maxRecDepth 16384

noncomputable section

namespace Cert.Loss

open Idealize.ShloMosaic Idealize.ShloMosaic.ValueIdx Idealize.SL.Sem
open scoped BigOperators

/-- The loss: the attraction sum and half the repulsion sum, each over the number of anchors, and half the pair sum over the
    number of pairs. -/
def loss (a r p : EReal) : EReal :=
  (Ideal.div a (Ideal.ofBits .f32 0x45000000#32) + Ideal.ofBits .f32 0x3F000000#32 * Ideal.div r (Ideal.ofBits .f32 0x45000000#32))
    + Ideal.ofBits .f32 0x3F000000#32 * Ideal.div p (Ideal.ofBits .f32 0x49FFE000#32)

/-- The kernel's value is the loss of its three sums. -/
theorem kernelValue_eq (G : Fin 512 → Box) (P : Fin 2048 → Box) :
    kernelValue G P = loss ((attr G P : ℝ) : EReal) (repel G P) ((-pairs P : ℝ) : EReal) := by
  have e : Ideal.ofBits .f32 0x00000000#32 - ((pairs P : ℝ) : EReal) = ((-pairs P : ℝ) : EReal) := by
    rw [Ideal.ofBits_zero_f32, zero_sub, EReal.coe_neg]
  have s : (∑ j ∈ Finset.range 4, added P j) = pairs P := added_sum P
  unfold kernelValue
  rw [s]
  unfold loss
  rw [← e]
  rfl

/-- From arguments the precondition admits, the kernel runs and ends with the loss in its result, the arguments unchanged. -/
theorem kernel_run (m : (ℓ : Loc Cert.KernelIdeal.nD Cert.KernelIdeal.τ Cert.KernelIdeal.sig) → Buf (Elt Ideal) ℓ)
    (ρ : Dev Cert.KernelIdeal.nD → PrngReg)
    (h0 : ∀ c : Dev Cert.KernelIdeal.nD, Boxes.Good (n := 512) (m ((c.tc : Thread Cert.KernelIdeal.nD Cert.KernelIdeal.τ).loc Cert.KernelIdeal.main_arg0)))
    (h1 : ∀ c : Dev Cert.KernelIdeal.nD, Boxes.Good (n := 2048) (m ((c.tc : Thread Cert.KernelIdeal.nD Cert.KernelIdeal.τ).loc Cert.KernelIdeal.main_arg1))) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c.tc : Thread Cert.KernelIdeal.nD Cert.KernelIdeal.τ).loc Cert.KernelIdeal.main_v2)
          = kernelArray c (Boxes.boxesOf (n := 512) (m ((c.tc : Thread Cert.KernelIdeal.nD Cert.KernelIdeal.τ).loc Cert.KernelIdeal.main_arg0)))
              (Boxes.boxesOf (n := 2048) (m ((c.tc : Thread Cert.KernelIdeal.nD Cert.KernelIdeal.τ).loc Cert.KernelIdeal.main_arg1)))
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1) :=
  (θ_run _ _ _).mono (fun r h c => ⟨(h c).1.trans
      (final_eq m c _ _ (h0 c).entry (h1 c).entry (h0 c).ordered (h1 c).ordered), (h c).2⟩)
    (Cert.KernelIdeal.Value.run_blocks m ρ)

instance : Cert.Pre_boxes.Facts := Boxes.facts

/-- The kernel and the reference with the floored pair penalty end with equal results. -/
theorem algebraic : Cert.algebraic_KernelIdeal_FlooredIdeal_pre_boxes := by
  intro m ρ m' ρ' hpre hag
  have h0 := fun c => ((Boxes.pre_iff _ _).1 (hpre c)).1
  have h1 := fun c => ((Boxes.pre_iff _ _).1 (hpre c)).2
  refine ⟨_, kernel_run m ρ h0 h1, (θ_run _ _ _).mono (fun r h c => ⟨((h c).1.trans (Cert.FlooredIdeal.Read.val_main_v306_eq _)).trans ?_, (h c).2⟩)
    (Cert.FlooredIdeal.Value.run (F := Ideal) m' ρ')⟩
  funext i
  have e := Ref.v306_at (h0 c).entry (h1 c).entry (h0 c).ordered (h1 c).ordered i
  rw [← (hag c).1, ← (hag c).2] at e
  refine e.trans ?_
  rw [(hag c).1, (hag c).2]
  exact (kernelValue_eq _ _).symm

end Cert.Loss
end
end
-- ==== Proof.RefOwn.lean ====
/-
  What reference.py itself returns: the two references share every stage but the pair sum, where this one clips the overlap
  ratio and takes the penalty with the linear part.
-/
module

public import proofs.«01_k».proof.Proof.Equal
public import proofs.«01_k».proof.Proof.Gen.ReferenceIdeal.Read

@[expose] public section

set_option maxRecDepth 16384

noncomputable section

namespace Cert.Loss.Own

open Idealize.ShloMosaic Idealize.ShloMosaic.ValueIdx Cert.ReferenceIdeal Cert.ReferenceIdeal.Gen Cert.ReferenceIdeal.Read
open scoped BigOperators

/-- The overlap ratio of two boxes, clipped between the small number and one. -/
def clipped (c d : Box) : ℝ := min 1 (max eps (iou c d))

/-- What a pair of places costs: the penalty of the clipped ratio for `a < b`, else nothing. -/
def cost (P : Fin 2048 → Box) (a b : Fin 2048) : EReal :=
  if a < b then pen ((clipped (cor (P a)) (cor (P b)) : ℝ) : EReal) else 0

/-- The cost of all the pairs. -/
def costs (P : Fin 2048 → Box) : EReal := ∑ a, ∑ b, cost P a b

/-- The attraction sum, the repulsion sum, the pair ratios and the triangle are the other reference's stages. -/
theorem attr_stage : @val_main_v234 = @Cert.FlooredIdeal.Read.val_main_v233 := rfl
theorem repel_stage : @val_main_v290 = @Cert.FlooredIdeal.Read.val_main_v289 := rfl
theorem ratio_stage : @val_main_v176 = @Cert.FlooredIdeal.Read.val_main_v176 := rfl
theorem triangle_stage : @val_main_v293 = @Cert.FlooredIdeal.Read.val_main_v292 := rfl

variable {x0 : FVec Ideal S512x4 .f32} {x1 : FVec Ideal S2048x4 .f32} {G : Fin 512 → Box} {P : Fin 2048 → Box}
  (H0 : ∀ p k, x0 (ix2 p k) = ((G p k : ℝ) : EReal)) (H1 : ∀ p k, x1 (ix2 p k) = ((P p k : ℝ) : EReal))
  (oG : ∀ p, Ordered (cor (G p))) (oP : ∀ p, Ordered (cor (P p)))
include H1 oP

/-- The clipped ratio of two predicted boxes. -/
theorem v177_at (a b : Fin 2048) :
    val_main_v177 (F := Ideal) x1 (ix2 a b) = ((clipped (cor (P a)) (cor (P b)) : ℝ) : EReal) := by
  rw [val_main_v177_apply, val_main_call1_v4_apply, val_main_call1_v3_apply, val_main_cst_24_apply, val_main_call1_v2_apply,
    val_main_call1_v1_apply, val_main_call1_v0_apply, val_main_cst_23_apply]
  refine (congrArg₂ (fun a b : EReal => min a b) one_f32 (congrArg₂ (fun a b : EReal => max a b) eps_f32 (Ref.v176_at H1 oP a b))).trans ?_
  rw [← coe_max, ← coe_min]
  rfl

/-- What one pair of predicted boxes costs. -/
theorem v307_at (a b : Fin 2048) : val_main_v307 (F := Ideal) x1 (ix2 a b) = cost P a b := by
  have swap (c : BitVec 1) (z : EReal) {x y : EReal} (h : x = y) : Scalar.select c z x = Scalar.select c z y := by rw [h]
  have e : val_main_v306 (F := Ideal) x1 (ix2 a b) = pen ((clipped (cor (P a)) (cor (P b)) : ℝ) : EReal) := by
    rw [val_main_v306_apply, val_main_v295_apply, val_main_v294_apply, val_main_cst_55_apply, val_main_v299_apply, val_main_v297_apply, val_main_v296_apply,
      val_main_cst_56_apply, val_main_v298_apply, val_main_cst_57_apply, val_main_v305_apply, val_main_v304_apply, val_main_v303_apply, val_main_v302_apply,
      val_main_cst_59_apply, val_main_v301_apply, val_main_v300_apply, val_main_cst_58_apply, v177_at H1 oP]
    refine swap _ _ ?_
    refine Eq.trans ?_ (congrArg (· - _) Ideal.ofBits_zero_f32).symm
    exact (zero_sub _).symm
  have t : val_main_v293 (F := Ideal) (ix2 a b) = if a < b then 1#1 else 0#1 := Ref.v292_at a b
  rw [val_main_v307_apply, t, e, val_main_call8_v1_apply, val_main_call8_v0_apply, val_main_cst_60_apply, cost]
  by_cases h : a < b
  · rw [if_pos h, if_pos h]; rfl
  · rw [if_neg h, if_neg h]; exact Ideal.ofBits_zero_f32

/-- The pair sum. -/
theorem v308_at (i : S_.Idx) : val_main_v308 (F := Ideal) x1 i = costs P := by
  rw [val_main_v308_apply, val_main_cst_61_apply]
  refine (congrArg₂ (fun a b : EReal => a + b) Ideal.ofBits_zero_f32 (sum_idx2 (val_main_v307 (F := Ideal) x1))).trans ?_
  rw [zero_add, costs]
  exact Finset.sum_congr rfl fun a _ => Finset.sum_congr rfl fun b _ => v307_at H1 oP a b

include H0 oG

/-- The number reference.py returns. -/
theorem v314_at (i : S1x1.Idx) : val_main_v314 (F := Ideal) x0 x1 i = loss ((attr G P : ℝ) : EReal) (repel G P) (costs P) := by
  have e : val_main_v314 (F := Ideal) x0 x1 i = val_main_v313 (F := Ideal) x0 x1 ix0 := by
    unfold val_main_v314
    generalize val_main_v313 (F := Ideal) x0 x1 = y
    exact congrArg y (funext fun a => a.elim0)
  have ea : ∀ j, val_main_v234 (F := Ideal) x0 x1 j = ((attr G P : ℝ) : EReal) := Ref.v233_at H0 H1 oG oP
  have er : ∀ j, val_main_v290 (F := Ideal) x0 x1 j = repel G P := Ref.v289_at H0 H1 oG oP
  rw [e, val_main_v313_apply, val_main_v311_apply, val_main_v235_apply, val_main_v310_apply,
    val_main_v291_apply, val_main_v312_apply, val_main_v309_apply, ea, er, v308_at H1 oP]
  rfl

end Cert.Loss.Own
end
end
-- ==== Proof.Disproof.lean ====
/-
  The kernel does not compute reference.py: on arrays of ones every pair of predicted boxes coincides, and there reference.py
  charges a pair one half over the linear part's divisor, the kernel the logarithm of its floor. Everything else agrees.
-/
module

public import proofs.«01_k».proof.Proof.RefOwn
public import proofs.«01_k».proof.Proof.Gen.ReferenceIdeal.Run

@[expose] public section

set_option maxRecDepth 16384

noncomputable section

namespace Cert.Loss.Disproof

open Idealize.ShloMosaic Idealize.ShloMosaic.ValueIdx Idealize.SL.Sem Cert.Loss.Own
open scoped BigOperators

/-! ## The counterexample's arrays -/

/-- Both tables are tables of the word of one. -/
theorem words0 : Cert.Cx_KernelIdeal.arg0_words = fun _ _ => 0x3F800000#32 := by
  have e0 : (![] : Fin 0 → BitVec 32) = fun _ => 0x3F800000#32 := funext fun i => i.elim0
  have e1 : (![] : Fin 0 → Fin 4 → BitVec 32) = fun _ _ => 0x3F800000#32 := funext fun i => i.elim0
  unfold Cert.Cx_KernelIdeal.arg0_words
  simp only [e0, e1, Matrix.vecCons_const]

theorem words1 : Cert.Cx_KernelIdeal.arg1_words = fun _ _ => 0x3F800000#32 := by
  have e0 : (![] : Fin 0 → BitVec 32) = fun _ => 0x3F800000#32 := funext fun i => i.elim0
  have e1 : (![] : Fin 0 → Fin 4 → BitVec 32) = fun _ _ => 0x3F800000#32 := funext fun i => i.elim0
  unfold Cert.Cx_KernelIdeal.arg1_words
  simp only [e0, e1, Matrix.vecCons_const]

/-- So every entry of either array is the real number one. -/
theorem ones0 : Cert.Cx_KernelIdeal.arg0 (F := Ideal) = fun _ => ((1 : ℝ) : EReal) :=
  funext fun i => (congrArg (Ideal.ofBits .f32) (congrFun (congrFun words0 _) _)).trans one_f32

theorem ones1 : Cert.Cx_KernelIdeal.arg1 (F := Ideal) = fun _ => ((1 : ℝ) : EReal) :=
  funext fun i => (congrArg (Ideal.ofBits .f32) (congrFun (congrFun words1 _) _)).trans one_f32

/-- Arrays of ones satisfy the precondition, -/
theorem good_ones {n : ℕ} : Boxes.Good (n := n) fun _ => ((1 : ℝ) : EReal) := by
  have h : (0 : EReal) ≤ ((1 : ℝ) : EReal) := EReal.coe_nonneg.mpr zero_le_one
  refine ⟨fun _ _ => ?_, fun _ => ⟨h, h⟩⟩
  rw [← EReal.coe_neg, ← coe_max]
  exact EReal.coe_lt_top _

/-- and hold boxes of ones. -/
theorem boxes_ones {n : ℕ} : Boxes.boxesOf (n := n) (fun _ => ((1 : ℝ) : EReal)) = fun _ _ => 1 := rfl

/-! ## The two values there -/

/-- The corners of the box of ones. -/
theorem cor_one : cor (fun _ => 1) 0 = 1 / 2 ∧ cor (fun _ => 1) 1 = 1 / 2 ∧ cor (fun _ => 1) 2 = 3 / 2 ∧ cor (fun _ => 1) 3 = 3 / 2 :=
  ⟨show (1 : ℝ) - 1 / 2 = 1 / 2 by norm_num, show (1 : ℝ) - 1 / 2 = 1 / 2 by norm_num,
    show (1 : ℝ) + 1 / 2 = 3 / 2 by norm_num, show (1 : ℝ) + 1 / 2 = 3 / 2 by norm_num⟩

theorem iou_one : iou (cor fun _ => 1) (cor fun _ => 1) = 1 := by
  obtain ⟨c0, c1, c2, c3⟩ := cor_one
  unfold iou union ovl area
  rw [c0, c1, c2, c3]
  norm_num

theorem iog_one : iog (cor fun _ => 1) (cor fun _ => 1) = ((1 : ℝ) : EReal) := by
  obtain ⟨c0, c1, c2, c3⟩ := cor_one
  unfold iog inter size
  rw [c0, c1, c2, c3, div_coe (by norm_num)]
  norm_num

theorem rden_pos : 0 < rden := by norm_num [rden]

/-- The penalty of a ratio of one. -/
theorem pen_one : pen ((1 : ℝ) : EReal) = ((1 / 2 / rden : ℝ) : EReal) := by
  have h : Ideal.cmp .ogt ((1 : ℝ) : EReal) ((1 / 2 : ℝ) : EReal) = 1#1 := by
    show BitVec.ofBool (decide (((1 / 2 : ℝ) : EReal) < ((1 : ℝ) : EReal))) = 1#1
    rw [decide_eq_true (EReal.coe_lt_coe_iff.mpr (by norm_num))]; rfl
  have e : Ideal.div (((1 : ℝ) : EReal) - ((1 / 2 : ℝ) : EReal)) ((rden : ℝ) : EReal) = ((1 / 2 / rden : ℝ) : EReal) := by
    rw [← EReal.coe_sub, div_coe rden_pos.ne']; norm_num
  unfold pen
  rw [half_f32, h, rden_f32, e]
  rfl

/-- The repulsion sum of boxes of ones is real. -/
theorem repel_one : repel (fun _ _ => 1) (fun _ _ => 1) = ((∑ _q : Fin 2048, 1 / 2 / rden : ℝ) : EReal) := by
  rw [coe_sum]
  exact Finset.sum_congr rfl fun q _ => (congrArg pen iog_one).trans pen_one

/-- How many pairs there are. -/
def count : ℝ := ∑ a : Fin 2048, ∑ b : Fin 2048, if a < b then 1 else 0

theorem count_pos : 0 < count := by
  refine Finset.sum_pos' (fun a _ => Finset.sum_nonneg fun b _ => by split <;> norm_num) ⟨0, Finset.mem_univ _, ?_⟩
  exact Finset.sum_pos' (fun b _ => by split <;> norm_num) ⟨1, Finset.mem_univ _, by rw [if_pos (by decide)]; norm_num⟩

/-- reference.py's pair sum there. -/
theorem costs_one : costs (fun _ _ => 1) = ((count * (1 / 2 / rden) : ℝ) : EReal) := by
  unfold count
  rw [Finset.sum_mul, coe_sum]
  refine Finset.sum_congr rfl fun a _ => ?_
  rw [Finset.sum_mul, coe_sum]
  refine Finset.sum_congr rfl fun b _ => ?_
  have e : clipped (cor fun _ => 1) (cor fun _ => 1) = 1 := by
    rw [clipped, iou_one, max_eq_right eps_lt_one.le, min_self]
  unfold cost
  rw [e, pen_one]
  by_cases h : a < b
  · rw [if_pos h, if_pos h, one_mul]
  · rw [if_neg h, if_neg h, zero_mul, EReal.coe_zero]

/-- The kernel's pair sum there. -/
theorem pairs_one : -pairs (fun _ _ => 1) = count * (-Real.log flo) := by
  unfold pairs count
  rw [mul_neg, Finset.sum_mul]
  refine congrArg Neg.neg (Finset.sum_congr rfl fun a _ => ?_)
  rw [Finset.sum_mul]
  refine Finset.sum_congr rfl fun b _ => ?_
  unfold place plog
  rw [iou_one, sub_self, max_eq_right flo_pos.le]
  by_cases h : a < b
  · rw [if_pos h, if_pos h, one_mul]
  · rw [if_neg h, if_neg h, zero_mul]

/-- The two charges differ. -/
theorem charges_ne : -Real.log flo ≠ 1 / 2 / rden := by
  have h1 : 1 / 2 / rden < 1 / 2 := by
    rw [div_lt_iff₀ rden_pos]; norm_num [rden]
  have h2 := Real.log_le_sub_one_of_pos flo_pos
  have h3 : flo < 1 / 2 := by norm_num [flo]
  intro e
  linarith

/-- The number of anchors and the divisor of the pair sum. -/
theorem anchors_f32 : Ideal.ofBits .f32 0x45000000#32 = ((2048 : ℝ) : EReal) := by
  simp [Ideal.ofBits, Ideal.ieee, -EReal.coe_mul]; norm_num

theorem divisor_f32 : Ideal.ofBits .f32 0x49FFE000#32 = ((2096128 : ℝ) : EReal) := by
  simp [Ideal.ofBits, Ideal.ieee, -EReal.coe_mul]; norm_num

/-- A loss of real sums is real. -/
theorem loss_coe (a r p : ℝ) : loss (a : EReal) (r : EReal) (p : EReal)
    = (((a / 2048 + 1 / 2 * (r / 2048)) + 1 / 2 * (p / 2096128) : ℝ) : EReal) := by
  unfold loss
  rw [anchors_f32, divisor_f32, half_f32, div_coe (by norm_num), div_coe (by norm_num), div_coe (by norm_num)]
  simp only [EReal.coe_add, EReal.coe_mul]

/-- The two programs' values at boxes of ones differ. -/
theorem values_ne : kernelValue (fun _ _ => 1) (fun _ _ => 1)
    ≠ loss ((attr (fun _ _ => 1) (fun _ _ => 1) : ℝ) : EReal) (repel (fun _ _ => 1) (fun _ _ => 1)) (costs fun _ _ => 1) := by
  rw [kernelValue_eq, repel_one, costs_one, pairs_one, loss_coe, loss_coe]
  intro e
  have e' := EReal.coe_injective e
  refine charges_ne (mul_left_cancel₀ count_pos.ne' ?_)
  linarith

/-! ## The disproof -/

/-- The claim that the kernel ends with reference.py's result is false, at arrays of ones. -/
theorem disproof : Cert.disproves_algebraic_KernelIdeal_ReferenceIdeal_pre_boxes := by
  intro m ρ m' ρ' hcx hag
  have a0 := fun c => (hcx c).1.trans ones0
  have a1 := fun c => (hcx c).2.trans ones1
  refine ⟨fun c => (Boxes.pre_iff _ _).2 ?_, ?_⟩
  · rw [a0 c, a1 c]; exact ⟨good_ones, good_ones⟩
  refine ⟨fun c => fun _ => loss ((attr (fun _ _ => 1) (fun _ _ => 1) : ℝ) : EReal) (repel (fun _ _ => 1) (fun _ _ => 1)) (costs fun _ _ => 1), ?_, ?_⟩
  · refine (θ_run _ _ _).mono (fun r h hall => ?_)
      (kernel_run m ρ (fun c => by rw [a0 c]; exact good_ones) (fun c => by rw [a1 c]; exact good_ones))
    have e := (h 0).1.symm.trans (hall 0)
    rw [a0 0, a1 0] at e
    exact values_ne (congrFun e (ix2 0 0))
  · refine (θ_run _ _ _).mono (fun r h c => ((h c).1.trans (Cert.ReferenceIdeal.Read.val_main_v314_eq _)).trans ?_)
      (Cert.ReferenceIdeal.Value.run (F := Ideal) m' ρ')
    funext i
    have e := v314_at (x0 := fun _ => ((1 : ℝ) : EReal)) (x1 := fun _ => ((1 : ℝ) : EReal)) (G := fun _ _ => 1) (P := fun _ _ => 1)
      (fun _ _ => rfl) (fun _ _ => rfl) (good_ones (n := 512)).ordered (good_ones (n := 2048)).ordered i
    rw [← (hag c).1.trans (a0 c), ← (hag c).2.trans (a1 c)] at e
    exact e

end Cert.Loss.Disproof
end
end
-- ==== Proof.Apart.lean ====
/-
  Where the kernel does compute reference.py: if every two predicted boxes overlap by a ratio between the small number of the
  clip and one half, the clip, the linear part and the kernel's floor all leave the pair penalty alone, and both programs charge
  the logarithm of the part not shared.
-/
module

public import proofs.«01_k».proof.Proof.RefOwn
public import proofs.«01_k».proof.Proof.Gen.ReferenceIdeal.Run
public import proofs.«01_k».proof.Pre_apart

@[expose] public section

set_option maxRecDepth 16384

noncomputable section

namespace Cert.Loss.Apart

open Idealize.ShloMosaic Idealize.ShloMosaic.ValueIdx Idealize.SL.Sem Cert.Pre_apart Cert.Loss.Own
open scoped BigOperators

/-! ## What the precondition says -/

/-- The side conditions of the precondition's operations. -/
theorem facts : Cert.Pre_apart.Facts := by
  constructor <;> first | decide | exact by decide +kernel

instance : Cert.Pre_apart.Facts := facts

/-- The bits of the pairs: for a pair above the diagonal whether its ratio is within the bounds, else one. -/
def mild (x1 : FVec Ideal S2048x4 .f32) : IVec S2048x2048 1 :=
  select (Cert.FlooredIdeal.Read.val_main_v292 (F := Ideal))
    (andi (cmpf .oge (Cert.FlooredIdeal.Read.val_main_v176 (F := Ideal) x1)
        (broadcastInDim S2048x2048 ![] Facts.bcast_S_S2048x2048 (constant (F := Ideal) S_ .f32 0x33D6BF95#32)))
      (cmpf .ole (Cert.FlooredIdeal.Read.val_main_v176 (F := Ideal) x1)
        (broadcastInDim S2048x2048 ![] Facts.bcast_S_S2048x2048 (constant (F := Ideal) S_ .f32 0x3F000000#32))))
    (broadcastInDim S2048x2048 ![] Facts.bcast_S_S2048x2048 (constantI S_ 1 1#1))

/-- The precondition is the one on the boxes and the bits of the pairs. -/
theorem fn_split (x0 : FVec Ideal S512x4 .f32) (x1 : FVec Ideal S2048x4 .f32) :
    Cert.Pre_apart.fn (F := Ideal) x0 x1 = andi (Cert.Pre_boxes.fn (F := Ideal) x0 x1)
      (Host.reduce IntOp.andi (mild x1) (constantI S_ 1 1#1) Facts.reducesTo_S2048x2048_S_d0_1 Facts.h_S_) := rfl

/-- Every two boxes overlap by a ratio within the bounds. -/
def Mild (P : Fin 2048 → Box) : Prop :=
  ∀ a b, a < b → eps ≤ iou (cor (P a)) (cor (P b)) ∧ iou (cor (P a)) (cor (P b)) ≤ 1 / 2

/-- Two real numbers' comparison bit. -/
theorem le_bit {x y : ℝ} (h : BitVec.ofBool (decide ((x : EReal) ≤ (y : EReal))) = 1#1) : x ≤ y := by
  by_contra n
  rw [decide_eq_false (fun e => n (EReal.coe_le_coe_iff.mp e))] at h
  exact absurd h (by decide)

/-- The bit of a pair above the diagonal bounds its ratio. -/
theorem mild_at {x1 : FVec Ideal S2048x4 .f32} {P : Fin 2048 → Box} (H1 : ∀ p k, x1 (ix2 p k) = ((P p k : ℝ) : EReal))
    (oP : ∀ p, Ordered (cor (P p))) {a b : Fin 2048} (hab : a < b) (h : mild x1 (ix2 a b) = 1#1) :
    eps ≤ iou (cor (P a)) (cor (P b)) ∧ iou (cor (P a)) (cor (P b)) ≤ 1 / 2 := by
  have e : Scalar.select (Cert.FlooredIdeal.Read.val_main_v292 (F := Ideal) (ix2 a b))
      (IntOp.andi (BitVec.ofBool (decide (Ideal.ofBits .f32 0x33D6BF95#32 ≤ Cert.FlooredIdeal.Read.val_main_v176 (F := Ideal) x1 (ix2 a b))))
        (BitVec.ofBool (decide (Cert.FlooredIdeal.Read.val_main_v176 (F := Ideal) x1 (ix2 a b) ≤ Ideal.ofBits .f32 0x3F000000#32)))) 1#1
      = (1#1 : BitVec 1) := h
  rw [Ref.v292_at, if_pos hab, Ref.v176_at H1 oP, eps_f32, half_f32] at e
  have e' := IntOp.andi_eq_one.1 e
  exact ⟨le_bit e'.1, le_bit e'.2⟩

/-- What follows from the precondition: good arrays, and ratios within the bounds. -/
theorem pre_imp {x0 : FVec Ideal S512x4 .f32} {x1 : FVec Ideal S2048x4 .f32}
    (h : Cert.Pre_apart.fn (F := Ideal) x0 x1 = fun _ => 1#1) :
    (Boxes.Good x0 ∧ Boxes.Good x1) ∧ Mild (Boxes.boxesOf x1) := by
  rw [fn_split] at h
  have g := (Boxes.pre_iff x0 x1).1 (funext fun i => (IntOp.andi_eq_one.1 (congrFun h i)).1)
  have b := (Boxes.all_iff _ _ _).1 (IntOp.andi_eq_one.1 (congrFun h ix0)).2
  exact ⟨g, fun p q hpq => mild_at g.2.entry g.2.ordered hpq (b p q)⟩

/-! ## The two pair penalties agree there -/

/-- Up to one half the penalty is the logarithm of what is left, with no floor and no line. -/
theorem pen_small {x : ℝ} (h : x ≤ 1 / 2) : pen (x : EReal) = ((-Real.log (1 - x) : ℝ) : EReal) := by
  have c : Ideal.cmp .ogt (x : EReal) ((1 / 2 : ℝ) : EReal) = 0#1 := by
    show BitVec.ofBool (decide (((1 / 2 : ℝ) : EReal) < (x : EReal))) = 0#1
    rw [decide_eq_false (fun e => absurd (EReal.coe_lt_coe_iff.mp e) (not_lt.mpr h))]; rfl
  have m : max (1 - x) eps = 1 - x := max_eq_left (by have : eps ≤ 1 / 2 := by norm_num [eps]
                                                      linarith)
  unfold pen
  rw [half_f32, c, one_f32, eps_f32, ← EReal.coe_sub 1 x, ← coe_max, m, log_coe (by linarith), Ideal.ofBits_zero_f32, zero_sub, ← EReal.coe_neg]
  rfl

/-- A pair within the bounds costs the same in both programs. -/
theorem cost_place {P : Fin 2048 → Box} (h : Mild P) (a b : Fin 2048) : cost P a b = ((-place P a b : ℝ) : EReal) := by
  unfold cost place
  by_cases hab : a < b
  · obtain ⟨h1, h2⟩ := h a b hab
    have k : clipped (cor (P a)) (cor (P b)) = iou (cor (P a)) (cor (P b)) := by
      rw [clipped, max_eq_right h1, min_eq_right (by linarith)]
    have f : max (1 - iou (cor (P a)) (cor (P b))) flo = 1 - iou (cor (P a)) (cor (P b)) :=
      max_eq_left (by have : flo ≤ 1 / 2 := by norm_num [flo]
                      linarith)
    rw [if_pos hab, if_pos hab, k, pen_small h2, plog, f]
  · rw [if_neg hab, if_neg hab, neg_zero, EReal.coe_zero]

/-- So do all the pairs together. -/
theorem costs_pairs {P : Fin 2048 → Box} (h : Mild P) : costs P = ((-pairs P : ℝ) : EReal) := by
  have e : -pairs P = ∑ a, ∑ b, -place P a b := by
    simp only [pairs, Finset.sum_neg_distrib]
  rw [e, coe_sum]
  refine Finset.sum_congr rfl fun a _ => ?_
  rw [coe_sum]
  exact Finset.sum_congr rfl fun b _ => cost_place h a b

/-! ## The claim -/

/-- The kernel and reference.py's function end with equal results. -/
theorem algebraic : Cert.algebraic_KernelIdeal_ReferenceIdeal_pre_apart := by
  intro m ρ m' ρ' hpre hag
  have h0 := fun c => (pre_imp (hpre c)).1.1
  have h1 := fun c => (pre_imp (hpre c)).1.2
  refine ⟨_, kernel_run m ρ h0 h1, (θ_run _ _ _).mono (fun r h c => ⟨((h c).1.trans (Cert.ReferenceIdeal.Read.val_main_v314_eq _)).trans ?_, (h c).2⟩)
    (Cert.ReferenceIdeal.Value.run (F := Ideal) m' ρ')⟩
  funext i
  have e := v314_at (h0 c).entry (h1 c).entry (h0 c).ordered (h1 c).ordered i
  rw [← (hag c).1, ← (hag c).2] at e
  refine e.trans ?_
  rw [(hag c).1, (hag c).2, costs_pairs (pre_imp (hpre c)).2]
  exact (kernelValue_eq _ _).symm

end Cert.Loss.Apart
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.FlooredIdeal
public import proofs.«01_k».proof.Proof.Gen.KernelIdeal.Value
public import proofs.«01_k».proof.Proof.Gen.FlooredIdeal.Run
public import proofs.«01_k».proof.Proof.Gen.ReferenceIdeal.Run
public import proofs.«01_k».proof.Proof.Boxes
public import proofs.«01_k».proof.Proof.Equal
public import proofs.«01_k».proof.Proof.Disproof
public import proofs.«01_k».proof.Proof.Apart
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The floored reference runs, keeps its arguments and declares no semaphore. -/
theorem frame_floored : Cert.quiescent_FlooredIdeal (hFlooredIdeal := Cert.FlooredIdeal.Gen.facts) := fun m ρ _ =>
  (θ_run _ _ _).mono (fun r h => ⟨fun c => (h c).2, sem_eq_zero_of_no_sems (by decide) r.2⟩) (Cert.FlooredIdeal.Value.run (F := Ideal) m ρ)

/-- So does the reference. -/
theorem frame_reference : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run (F := Ideal) m ρ)

/-- Every claim of the certificate. -/
theorem claim : Cert.Claim :=
  ⟨Cert.Kernel.Gen.facts, Cert.KernelIdeal.Gen.facts, Cert.FlooredIdeal.Gen.facts, Cert.ReferenceIdeal.Gen.facts, Cert.Loss.Apart.facts, Cert.Loss.Boxes.facts,
    fun m ρ _ => Cert.Kernel.Gen.frame m ρ,
    fun m ρ _ => Cert.KernelIdeal.Gen.frame m ρ,
    fun m ρ _ => Cert.KernelIdeal.Gen.frame m ρ,
    fun m ρ _ => Cert.KernelIdeal.Gen.frame m ρ,
    frame_floored,
    fun m ρ _ => frame_floored m ρ trivial,
    frame_reference,
    fun m ρ _ => frame_reference m ρ trivial,
    trivial,
    Cert.Loss.Apart.algebraic,
    Cert.Loss.algebraic,
    Cert.Loss.Disproof.disproof⟩

end Cert.Proof

end
